-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v2) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v3)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v3) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v37) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Mixer_MixerIdeal : Prop :=
  IdealRules.named_const.Statement Cert.MixerIdeal.κ "inv_ln2" .f32 0x3FB8AA3B#32 (((Real.log 2)⁻¹ : ℝ) : EReal)

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)) →
    ∃ (v0 : (c : Dev Cert.MixerIdeal.nD) → Buf (Elt Ideal) ((c.tc : Thread Cert.MixerIdeal.nD Cert.MixerIdeal.τ).loc Cert.MixerIdeal.main_v6_2)) (v1 : (c : Dev Cert.MixerIdeal.nD) → Buf (Elt Ideal) ((c.tc : Thread Cert.MixerIdeal.nD Cert.MixerIdeal.τ).loc Cert.MixerIdeal.main_v6_3)) (v2 : (c : Dev Cert.MixerIdeal.nD) → Buf (Elt Ideal) ((c.tc : Thread Cert.MixerIdeal.nD Cert.MixerIdeal.τ).loc Cert.MixerIdeal.main_v6_4)) (v3 : (c : Dev Cert.MixerIdeal.nD) → Buf (Elt Ideal) ((c.tc : Thread Cert.MixerIdeal.nD Cert.MixerIdeal.τ).loc Cert.MixerIdeal.main_v6_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v6_2) = v0 c
          ∧ r.2.mem ((c.tc : Thread Cert.MixerIdeal.nD Cert.MixerIdeal.τ).loc Cert.MixerIdeal.main_v6_3) = v1 c
          ∧ r.2.mem ((c.tc : Thread Cert.MixerIdeal.nD Cert.MixerIdeal.τ).loc Cert.MixerIdeal.main_v6_4) = v2 c
          ∧ r.2.mem ((c.tc : Thread Cert.MixerIdeal.nD Cert.MixerIdeal.τ).loc Cert.MixerIdeal.main_v6_5) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v0) = v0 c
          ∧ r.2.mem ((c.tc : Thread Cert.MixerRefIdeal.nD Cert.MixerRefIdeal.τ).loc Cert.MixerRefIdeal.main_v1) = v1 c
          ∧ r.2.mem ((c.tc : Thread Cert.MixerRefIdeal.nD Cert.MixerRefIdeal.τ).loc Cert.MixerRefIdeal.main_v2) = v2 c
          ∧ r.2.mem ((c.tc : Thread Cert.MixerRefIdeal.nD Cert.MixerRefIdeal.τ).loc Cert.MixerRefIdeal.main_v3) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojRefIdeal : Cert.OutprojRefIdeal.Facts) (hFfn2 : Cert.Ffn2.Facts) (hFfn2Ideal : Cert.Ffn2Ideal.Facts) (hFfn2RefIdeal : Cert.Ffn2RefIdeal.Facts) (hMixer : Cert.Mixer.Facts) (hMixerIdeal : Cert.MixerIdeal.Facts) (hMixerRefIdeal : Cert.MixerRefIdeal.Facts),
    quiescent_Kernel (hKernel := hKernel)
    ∧ quiescent_KernelIdeal (hKernelIdeal := hKernelIdeal)
    ∧ quiescent_ReferenceIdeal (hReferenceIdeal := hReferenceIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Mixer (hMixer := hMixer)
    ∧ quiescent_MixerIdeal (hMixerIdeal := hMixerIdeal)
    ∧ quiescent_MixerRefIdeal (hMixerRefIdeal := hMixerRefIdeal)
    ∧ preserves_Kernel_KernelIdeal
    ∧ algebraic_KernelIdeal_ReferenceIdeal (hKernelIdeal := hKernelIdeal) (hReferenceIdeal := hReferenceIdeal)
    ∧ preserves_Outproj_OutprojIdeal
    ∧ algebraic_OutprojIdeal_OutprojRefIdeal (hOutprojIdeal := hOutprojIdeal) (hOutprojRefIdeal := hOutprojRefIdeal)
    ∧ preserves_Ffn2_Ffn2Ideal
    ∧ algebraic_Ffn2Ideal_Ffn2RefIdeal (hFfn2Ideal := hFfn2Ideal) (hFfn2RefIdeal := hFfn2RefIdeal)
    ∧ preserves_Mixer_MixerIdeal
    ∧ algebraic_MixerIdeal_MixerRefIdeal (hMixerIdeal := hMixerIdeal) (hMixerRefIdeal := hMixerRefIdeal)
-- ==== Kernel.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x8192 : Shape := ⟨3, ![1, 2048, 8192]⟩
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S2048x8192 : Shape := ⟨2, ![2048, 8192]⟩
abbrev S4x8x2048x256 : Shape := ⟨4, ![4, 8, 2048, 256]⟩
abbrev S1024x2048 : Shape := ⟨2, ![1024, 2048]⟩
abbrev S2048x512 : Shape := ⟨2, ![2048, 512]⟩
abbrev S512x2048 : Shape := ⟨2, ![512, 2048]⟩
abbrev S128x1024 : Shape := ⟨2, ![128, 1024]⟩
abbrev S4x1x128x256 : Shape := ⟨4, ![4, 1, 128, 256]⟩
abbrev S128x256 : Shape := ⟨2, ![128, 256]⟩
abbrev S1x1x128x256 : Shape := ⟨4, ![1, 1, 128, 256]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 18
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x8192, .f32⟩
  | .hbm, ⟨6, _⟩ => ⟨S16384x2048, .f32⟩
  | .hbm, ⟨7, _⟩ => ⟨S2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S2048x8192, .f32⟩
  | .hbm, ⟨15, _⟩ => ⟨S1x2048, .f32⟩
  | .hbm, ⟨16, _⟩ => ⟨S16384x2048, .f32⟩
  | .hbm, ⟨17, _⟩ => ⟨S4x8x2048x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S128x1024, .f32⟩
  | .local _ .vmem, ⟨10, _⟩ => ⟨S128x1024, .f32⟩
  | .local _ .vmem, ⟨11, _⟩ => ⟨S1024x2048, .f32⟩
  | .local _ .vmem, ⟨12, _⟩ => ⟨S1024x2048, .f32⟩
  | .local _ .vmem, ⟨13, _⟩ => ⟨S4x1x128x256, .bf16⟩
  | .local _ .vmem, ⟨14, _⟩ => ⟨S4x1x128x256, .bf16⟩
  | .local _ .vmem, ⟨15, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x2048 : Shape := ⟨3, ![2, 8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x8192 : Shape := ⟨3, ![1, 2048, 8192]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩
abbrev S2048x8192 : Shape := ⟨2, ![2048, 8192]⟩
abbrev S2048x8x4x256 : Shape := ⟨4, ![2048, 8, 4, 256]⟩
abbrev S4x8x2048x256 : Shape := ⟨4, ![4, 8, 2048, 256]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x8192, .f32⟩
  | .hbm, ⟨6, _⟩ => ⟨S16384x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x2048, .f32⟩
  | .hbm, ⟨40, _⟩ => ⟨S2048x8192, .f32⟩
  | .hbm, ⟨41, _⟩ => ⟨S2048x8x4x256, .f32⟩
  | .hbm, ⟨42, _⟩ => ⟨S4x8x2048x256, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S4x8x2048x256, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Outproj.lean ====
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x2048, .bf16⟩
  | .hbm, ⟨5, _⟩ => ⟨S16384x2048, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Ffn2.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2RefIdeal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Mixer.lean ====
abbrev S16384x2048 : Shape := ⟨2, ![16384, 2048]⟩
abbrev S1x2048 : Shape := ⟨2, ![1, 2048]⟩
abbrev S4x8x2048x256 : Shape := ⟨4, ![4, 8, 2048, 256]⟩
abbrev S1x1024 : Shape := ⟨2, ![1, 1024]⟩
abbrev S8192x256 : Shape := ⟨2, ![8192, 256]⟩
abbrev S2048x5632 : Shape := ⟨2, ![2048, 5632]⟩
abbrev S5632x2048 : Shape := ⟨2, ![5632, 2048]⟩
abbrev S2048x2048 : Shape := ⟨2, ![2048, 2048]⟩
abbrev S2048 : Shape := ⟨1, ![2048]⟩
abbrev S1024 : Shape := ⟨1, ![1024]⟩
abbrev S16384x1024 : Shape := ⟨2, ![16384, 1024]⟩
abbrev S512x2048 : Shape := ⟨2, ![512, 2048]⟩
abbrev S512x256 : Shape := ⟨2, ![512, 256]⟩
abbrev S1x256 : Shape := ⟨2, ![1, 256]⟩
abbrev S1x8x2048x256 : Shape := ⟨4, ![1, 8, 2048, 256]⟩
abbrev S16x5632 : Shape := ⟨2, ![16, 5632]⟩
abbrev S64x2048 : Shape := ⟨2, ![64, 2048]⟩
abbrev S16x2048 : Shape := ⟨2, ![16, 2048]⟩
abbrev S2x8x512x256 : Shape := ⟨4, ![2, 8, 512, 256]⟩
abbrev S2x512x256 : Shape := ⟨3, ![2, 512, 256]⟩
abbrev S4x256x256 : Shape := ⟨3, ![4, 256, 256]⟩
abbrev S8x128x128 : Shape := ⟨3, ![8, 128, 128]⟩
abbrev S2x512x128 : Shape := ⟨3, ![2, 512, 128]⟩
abbrev S512 : Shape := ⟨1, ![512]⟩
abbrev S512x1 : Shape := ⟨2, ![512, 1]⟩
abbrev S256x256 : Shape := ⟨2, ![256, 256]⟩
abbrev S1x256x256 : Shape := ⟨3, ![1, 256, 256]⟩
abbrev S128x128 : Shape := ⟨2, ![128, 128]⟩
abbrev S1x128x128 : Shape := ⟨3, ![1, 128, 128]⟩
abbrev S512x128 : Shape := ⟨2, ![512, 128]⟩
abbrev S64x64 : Shape := ⟨2, ![64, 64]⟩
abbrev S16x128 : Shape := ⟨2, ![16, 128]⟩
abbrev S1x8x512x256 : Shape := ⟨4, ![1, 8, 512, 256]⟩
abbrev S8x512x256 : Shape := ⟨3, ![8, 512, 256]⟩
abbrev S1x512x256 : Shape := ⟨3, ![1, 512, 256]⟩
abbrev S64x128 : Shape := ⟨2, ![64, 128]⟩
abbrev S64x384 : Shape := ⟨2, ![64, 384]⟩
abbrev S1x1x2048x256 : Shape := ⟨4, ![1, 1, 2048, 256]⟩
abbrev S2048x256 : Shape := ⟨2, ![2048, 256]⟩
abbrev S1x1x512x256 : Shape := ⟨4, ![1, 1, 512, 256]⟩
abbrev S1x512x128 : Shape := ⟨3, ![1, 512, 128]⟩
abbrev S1x128 : Shape := ⟨2, ![1, 128]⟩
abbrev S32x128 : Shape := ⟨2, ![32, 128]⟩
abbrev S8x128 : Shape := ⟨2, ![8, 128]⟩
abbrev S16 : Shape := ⟨1, ![16]⟩
abbrev S16x1 : Shape := ⟨2, ![16, 1]⟩
abbrev S32x64 : Shape := ⟨2, ![32, 64]⟩
abbrev S16x64 : Shape := ⟨2, ![16, 64]⟩
abbrev S8x64 : Shape := ⟨2, ![8, 64]⟩
abbrev S64x192 : Shape := ⟨2, ![64, 192]⟩
abbrev S192x128 : Shape := ⟨2, ![192, 128]⟩
abbrev S64 : Shape := ⟨1, ![64]⟩
abbrev S64x1 : Shape := ⟨2, ![64, 1]⟩
abbrev S256 : Shape := ⟨1, ![256]⟩
abbrev S256x1 : Shape := ⟨2, ![256, 1]⟩

abbrev nBuf : Space → Nat
  | .hbm => 23
  | .vmem => 39
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x8x2048x256, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x256, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x2048, .f32⟩
  | .hbm, ⟨11, _⟩ => ⟨S2048, .f32⟩
  | .hbm, ⟨12, _⟩ => ⟨S1024, .f32⟩
  | .hbm, ⟨13, _⟩ => ⟨S1024, .f32⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S16384x1024, .bf16⟩
  | .hbm, ⟨18, _⟩ => ⟨S16384x1024, .bf16⟩
  | .hbm, ⟨19, _⟩ => ⟨S2048x5632, .bf16⟩
  | .hbm, ⟨20, _⟩ => ⟨S2048x5632, .bf16⟩
  | .hbm, ⟨21, _⟩ => ⟨S5632x2048, .bf16⟩
  | .hbm, ⟨22, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x8x2048x256, .bf16⟩
  | .local _ .vmem, ⟨12, _⟩ => ⟨S1x8x2048x256, .bf16⟩
  | .local _ .vmem, ⟨13, _⟩ => ⟨S16x5632, .f32⟩
  | .local _ .vmem, ⟨14, _⟩ => ⟨S16x5632, .f32⟩
  | .local _ .vmem, ⟨15, _⟩ => ⟨S16x5632, .f32⟩
  | .local _ .vmem, ⟨16, _⟩ => ⟨S16x5632, .f32⟩
  | .local _ .vmem, ⟨17, _⟩ => ⟨S64x2048, .f32⟩
  | .local _ .vmem, ⟨18, _⟩ => ⟨S64x2048, .f32⟩
  | .local _ .vmem, ⟨19, _⟩ => ⟨S16x2048, .f32⟩
  | .local _ .vmem, ⟨20, _⟩ => ⟨S16x2048, .f32⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S16x5632, .bf16⟩
  | .local _ .vmem, ⟨26, _⟩ => ⟨S16x5632, .bf16⟩
  | .local _ .vmem, ⟨27, _⟩ => ⟨S16x5632, .bf16⟩
  | .local _ .vmem, ⟨28, _⟩ => ⟨S16x5632, .bf16⟩
  | .local _ .vmem, ⟨29, _⟩ => ⟨S64x2048, .bf16⟩
  | .local _ .vmem, ⟨30, _⟩ => ⟨S64x2048, .bf16⟩
  | .local _ .vmem, ⟨31, _⟩ => ⟨S16x2048, .bf16⟩
  | .local _ .vmem, ⟨32, _⟩ => ⟨S16x2048, .bf16⟩
  | .local _ .vmem, ⟨33, _⟩ => ⟨S512x2048, .bf16⟩
  | .local _ .vmem, ⟨34, _⟩ => ⟨S2x8x512x256, .bf16⟩
  | .local _ .vmem, ⟨35, _⟩ => ⟨S2x512x256, .f32⟩
  | .local _ .vmem, ⟨36, _⟩ => ⟨S4x256x256, .f32⟩
  | .local _ .vmem, ⟨37, _⟩ => ⟨S8x128x128, .f32⟩
  | .local _ .vmem, ⟨38, _⟩ => ⟨S2x512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![129], ![false]⟩

def k0_cond3 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c4_i32_15 : BitVec 32 := 4#32
  let c0_i32_18 : BitVec 32 := 0#32
  let v34 : BitVec 1 := Scalar.cmpi .sgt c4_i32_15 c0_i32_18
  let v35 : BitVec 32 := Scalar.extui v34
  let c0_i32_19 : BitVec 32 := 0#32
  let v36 : BitVec 1 := Scalar.cmpi .slt c4_i32_15 c0_i32_19
  let v37 : BitVec 32 := Scalar.extui v36
  let v38 : BitVec 32 := Scalar.subi v35 v37
  let v39 : BitVec 1 := Scalar.cmpi .ne v33 v38
  let v40 : BitVec 32 := Scalar.remsi v1 c4_i32_15
  let c0_i32_20 : BitVec 32 := 0#32
  let v41 : BitVec 1 := Scalar.cmpi .ne v40 c0_i32_20
  let v42 : BitVec 1 := Scalar.andi v39 v41
  let v28 : BitVec 32 := Scalar.divsi v1 c4_i32_15
  let c1_i32_21 : BitVec 32 := 1#32
  let v43 : BitVec 32 := Scalar.subi v28 c1_i32_21
  let v44 : BitVec 32 := Scalar.select v42 v43 v28
  let c16_i32 : BitVec 32 := 16#32
  let c0_i32_22 : BitVec 32 := 0#32
  let v45 : BitVec 1 := Scalar.cmpi .eq c16_i32 c0_i32_22
  let c1_i32_23 : BitVec 32 := 1#32
  let v46 : BitVec 32 := Scalar.select v45 c1_i32_23 c16_i32
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let c0_i32_27 : BitVec 32 := 0#32
  let v55 : BitVec 1 := Scalar.cmpi .eq v54 c0_i32_27
  let v56 : BitVec 32 := Scalar.extui v55
  let c0_i32_28 : BitVec 32 := 0#32
  let v57 : BitVec 1 := Scalar.cmpi .ne v56 c0_i32_28
  v57

def k0_off1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v14642 : Index := Scalar.indexCast v11
  let c0_6569 : Index := 0#32
  let c0_6570 : Index := 0#32
  ![v14642.toNat, 0, 0]
def k0_off2 (i : grid0.Coords) (c0_i32_6573 : BitVec 32) : Fin 3 → Nat :=
  let c2_i32_6572 : BitVec 32 := 2#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v14647 : BitVec 32 := Scalar.muli c2_i32_6572 v11
  let v14648 : BitVec 32 := Scalar.addi v14647 c0_i32_6573
  let v14649 : Index := Scalar.indexCast v14648
  let c0_6574 : Index := 0#32
  let c0_6575 : Index := 0#32
  ![v14649.toNat, 0, 0]
def k0_off3 (i : grid0.Coords) : Fin 4 → Nat :=
  let arg0 : BitVec 32 := BitVec.ofNat 32 (i 0).val
  let c1_i32_54 : BitVec 32 := 1#32
  let v83 : BitVec 32 := Scalar.addi arg0 c1_i32_54
  let c2_i32_55 : BitVec 32 := 2#32
  let c0_i32_56 : BitVec 32 := 0#32
  let v84 : BitVec 1 := Scalar.cmpi .eq c2_i32_55 c0_i32_56
  let c1_i32_57 : BitVec 32 := 1#32
  let v85 : BitVec 32 := Scalar.select v84 c1_i32_57 c2_i32_55
  let v86 : BitVec 32 := Scalar.remsi v83 v85
  let c0_i32_59 : BitVec 32 := 0#32
  let v88 : BitVec 1 := Scalar.cmpi .slt v86 c0_i32_59
  let c0_i32_60 : BitVec 32 := 0#32
  let v89 : BitVec 1 := Scalar.cmpi .slt v85 c0_i32_60
  let v90 : BitVec 1 := Scalar.xori v88 v89
  let c0_i32_58 : BitVec 32 := 0#32
  let v87 : BitVec 1 := Scalar.cmpi .ne v86 c0_i32_58
  let v91 : BitVec 1 := Scalar.andi v90 v87
  let v92 : BitVec 32 := Scalar.addi v86 v85
  let v93 : BitVec 32 := Scalar.select v91 v92 v86
  let c0_i32_114 : BitVec 32 := 0#32
  let c0_i32_115 : BitVec 32 := 0#32
  let c0_i32_116 : BitVec 32 := 0#32
  ![v93.toNat, 0, 0, 0]
def k0_off4 (i : grid0.Coords) : Fin 3 → Nat :=
  let arg0 : BitVec 32 := BitVec.ofNat 32 (i 0).val
  let c1_i32_61 : BitVec 32 := 1#32
  let v94 : BitVec 32 := Scalar.addi arg0 c1_i32_61
  let c2_i32_62 : BitVec 32 := 2#32
  let c0_i32_63 : BitVec 32 := 0#32
  let v95 : BitVec 1 := Scalar.cmpi .eq c2_i32_62 c0_i32_63
  let c1_i32_64 : BitVec 32 := 1#32
  let v96 : BitVec 32 := Scalar.select v95 c1_i32_64 c2_i32_62
  let v97 : BitVec 32 := Scalar.remsi v94 v96
  let c0_i32_66 : BitVec 32 := 0#32
  let v99 : BitVec 1 := Scalar.cmpi .slt v97 c0_i32_66
  let c0_i32_67 : BitVec 32 := 0#32
  let v100 : BitVec 1 := Scalar.cmpi .slt v96 c0_i32_67
  let v101 : BitVec 1 := Scalar.xori v99 v100
  let c0_i32_65 : BitVec 32 := 0#32
  let v98 : BitVec 1 := Scalar.cmpi .ne v97 c0_i32_65
  let v102 : BitVec 1 := Scalar.andi v101 v98
  let v103 : BitVec 32 := Scalar.addi v97 v96
  let v104 : BitVec 32 := Scalar.select v102 v103 v97
  let v291 : Index := Scalar.indexCast v104
  let c0_129 : Index := 0#32
  let c0_130 : Index := 0#32
  ![v291.toNat, 0, 0]
def k0_off5 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_186 : BitVec 32 := 0#32
  let c0_i32_187 : BitVec 32 := 0#32
  let c0_i32_188 : BitVec 32 := 0#32
  ![v82.toNat, 0, 0, 0]
def k0_off6 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_187 : BitVec 32 := 0#32
  let c0_i32_188 : BitVec 32 := 0#32
  ![v82.toNat, 4, 0, 0]
def k0_off7 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_199 : BitVec 32 := 0#32
  let c0_i32_200 : BitVec 32 := 0#32
  ![v82.toNat, 5, 0, 0]
def k0_off8 (i : grid0.Coords) : Fin 3 → Nat :=
  let arg0 : BitVec 32 := BitVec.ofNat 32 (i 0).val
  let c2_i32_206 : BitVec 32 := 2#32
  let c0_i32_207 : BitVec 32 := 0#32
  let v658 : BitVec 1 := Scalar.cmpi .eq c2_i32_206 c0_i32_207
  let c1_i32_208 : BitVec 32 := 1#32
  let v659 : BitVec 32 := Scalar.select v658 c1_i32_208 c2_i32_206
  let v660 : BitVec 32 := Scalar.remsi arg0 v659
  let c0_i32_210 : BitVec 32 := 0#32
  let v662 : BitVec 1 := Scalar.cmpi .slt v660 c0_i32_210
  let c0_i32_211 : BitVec 32 := 0#32
  let v663 : BitVec 1 := Scalar.cmpi .slt v659 c0_i32_211
  let v664 : BitVec 1 := Scalar.xori v662 v663
  let c0_i32_209 : BitVec 32 := 0#32
  let v661 : BitVec 1 := Scalar.cmpi .ne v660 c0_i32_209
  let v665 : BitVec 1 := Scalar.andi v664 v661
  let v666 : BitVec 32 := Scalar.addi v660 v659
  let v667 : BitVec 32 := Scalar.select v665 v666 v660
  let v668 : Index := Scalar.indexCast v667
  let c0_212 : Index := 0#32
  let c0_213 : Index := 0#32
  ![v668.toNat, 0, 0]
def k0_off9 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6200 : BitVec 32 := 0#32
  let c0_i32_6201 : BitVec 32 := 0#32
  ![v82.toNat, 6, 0, 0]
def k0_off10 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6206 : BitVec 32 := 0#32
  let c0_i32_6207 : BitVec 32 := 0#32
  ![v82.toNat, 7, 0, 0]
def k0_off11 (i : grid0.Coords) (c0_i32_6218 : BitVec 32) : Fin 3 → Nat :=
  let c2_i32_6217 : BitVec 32 := 2#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v13642 : BitVec 32 := Scalar.muli c2_i32_6217 v11
  let v13643 : BitVec 32 := Scalar.addi v13642 c0_i32_6218
  let v13644 : Index := Scalar.indexCast v13643
  let c0_6219 : Index := 0#32
  let c0_6220 : Index := 0#32
  ![v13644.toNat, 0, 0]
def k0_off12 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6504 : BitVec 32 := 0#32
  let c0_i32_6505 : BitVec 32 := 0#32
  let c0_i32_6506 : BitVec 32 := 0#32
  ![v82.toNat, 0, 0, 0]
def k0_off13 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6511 : BitVec 32 := 0#32
  let c0_i32_6512 : BitVec 32 := 0#32
  ![v82.toNat, 1, 0, 0]
def k0_off14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v14542 : Index := Scalar.indexCast v11
  let c0_6522 : Index := 0#32
  let c0_6523 : Index := 0#32
  ![v14542.toNat, 0, 0]
def k0_off15 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6557 : BitVec 32 := 0#32
  let c0_i32_6558 : BitVec 32 := 0#32
  ![v82.toNat, 2, 0, 0]
def k0_off16 (i : grid0.Coords) : Fin 4 → Nat :=
  let arg0 : BitVec 32 := BitVec.ofNat 32 (i 0).val
  let c2_i32 : BitVec 32 := 2#32
  let c0_i32_49 : BitVec 32 := 0#32
  let v73 : BitVec 1 := Scalar.cmpi .eq c2_i32 c0_i32_49
  let c1_i32_50 : BitVec 32 := 1#32
  let v74 : BitVec 32 := Scalar.select v73 c1_i32_50 c2_i32
  let v75 : BitVec 32 := Scalar.remsi arg0 v74
  let c0_i32_52 : BitVec 32 := 0#32
  let v77 : BitVec 1 := Scalar.cmpi .slt v75 c0_i32_52
  let c0_i32_53 : BitVec 32 := 0#32
  let v78 : BitVec 1 := Scalar.cmpi .slt v74 c0_i32_53
  let v79 : BitVec 1 := Scalar.xori v77 v78
  let c0_i32_51 : BitVec 32 := 0#32
  let v76 : BitVec 1 := Scalar.cmpi .ne v75 c0_i32_51
  let v80 : BitVec 1 := Scalar.andi v79 v76
  let v81 : BitVec 32 := Scalar.addi v75 v74
  let v82 : BitVec 32 := Scalar.select v80 v81 v75
  let c0_i32_6563 : BitVec 32 := 0#32
  let c0_i32_6564 : BitVec 32 := 0#32
  ![v82.toNat, 3, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let c0_i32_4 : BitVec 32 := 0#32
  let v18 : BitVec 1 := Scalar.cmpi .eq c16_i32 c0_i32_4
  let c1_i32_5 : BitVec 32 := 1#32
  let v19 : BitVec 32 := Scalar.select v18 c1_i32_5 c16_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  ![v27.toNat, c0_i32_9.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_6 (i : grid0.Coords) : Fin 4 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  let c0_i32_6 : BitVec 32 := 0#32
  ![v10.toNat, c0_i32_3.toNat, c0_i32_4.toNat, c0_i32_5.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c87_i32 : BitVec 32 := 87#32
  let v0 : BitVec 32 := Scalar.minsi arg0 c87_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

def cc0_transform_13 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c87_i32 : BitVec 32 := 87#32
  let v0 : BitVec 32 := Scalar.minsi arg0 c87_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixerIdeal.lean ====
variable {F : FTy → Type} [FloatOps F] [Named F]
def κ : String → Option EReal := fun
  | "inv_ln2" => some (((Real.log 2)⁻¹ : ℝ) : EReal)
  | _ => none
-- ==== MixerRefIdeal.lean ====
abbrev S16384x2048 : Shape := ⟨2, ![16384, 2048]⟩
abbrev S1x2048 : Shape := ⟨2, ![1, 2048]⟩
abbrev S4x8x2048x256 : Shape := ⟨4, ![4, 8, 2048, 256]⟩
abbrev S1x1024 : Shape := ⟨2, ![1, 1024]⟩
abbrev S8192x256 : Shape := ⟨2, ![8192, 256]⟩
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x8x2048x256, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x256, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x2048, .f32⟩
  | .hbm, ⟨11, _⟩ => ⟨S2048x5632, .bf16⟩
  | .hbm, ⟨12, _⟩ => ⟨S2048x5632, .bf16⟩
  | .hbm, ⟨13, _⟩ => ⟨S5632x2048, .bf16⟩
  | .hbm, ⟨14, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Safe.lean ====
/- Safety of a straight-line program over buffers whose contents are not followed.

   `Safe c R p` says: holding the resource `R`, the program `p` runs and hands `R` back, whatever it computes.
   `R` gives access to the buffers the program loads (`Rd`: held at some share and contents, and taken back as
   they were) and to those it stores (`Wr`: held whole-share at some contents, and taken back at any). A program
   of loads, stores, conditionals and pure values is safe by one lemma for each of its operations. -/
module

public import Idealize.ShloMosaic.Lib.Claim
public import Idealize.ShloMosaic.Lib.Memref
public import Idealize.ShloMosaic.Rules.Step

@[expose] public section

noncomputable section

namespace Cert.Safety

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels} [Preorder Lvl]

variable {sp : Space} {s s' : Shape} {e : EltTy}

/-- `R` lends the elements of `m`'s view, at some share and contents, for reading. -/
def Rd (c : Thread nD τ) (R : sProp (MT nD τ sig Ix Val Name U Lvl)) (m : Memref sig c.2.kind sp s e) : Prop :=
  R ⊢ iprop(∃ (q : PosShare TreeShare) (S : Finset (Idx (m.view.loc c))) (f : Buf Val (m.view.loc c)),
    ⌜m.view.set ⊆ S⌝ ∗ ((m.view.loc c ↦[S]{q} f) : sProp (MT nD τ sig Ix Val Name U Lvl)) ∗ ((m.view.loc c ↦[S]{q} f) -∗ R))

/-- `R` lends the elements of `m`'s view for writing, and takes them back at any contents. -/
def Wr (c : Thread nD τ) (R : sProp (MT nD τ sig Ix Val Name U Lvl)) (m : Memref sig c.2.kind sp s e) : Prop :=
  R ⊢ iprop(∃ (S : Finset (Idx (m.view.loc c))) (f : Buf Val (m.view.loc c)),
    ⌜m.view.set ⊆ S⌝ ∗ ((m.view.loc c ↦[S]{fullShare} f) : sProp (MT nD τ sig Ix Val Name U Lvl)) ∗ (∀ f', (m.view.loc c ↦[S]{fullShare} f') -∗ R))

variable {c : Thread nD τ} {R P : sProp (MT nD τ sig Ix Val Name U Lvl)}

/-- What is lent for writing can be read. -/
theorem Wr.rd {m : Memref sig c.2.kind sp s e} (h : Wr (Ix := Ix) (Name := Name) (U := U) (Lvl := Lvl) c R m) : Rd (Ix := Ix) (Name := Name) (U := U) (Lvl := Lvl) c R m := by
  unfold Wr at h; unfold Rd
  refine h.trans ?_
  iintro ⟨%S, %f, %hS, H, Hk⟩
  iexists fullShare, S, f
  isplitr; · ipureintro; exact hS
  isplitl [H]; · iexact H
  iintro H
  iapply Hk
  iexact H

/-- An owned memref is lent for reading. -/
theorem Rd.owns {m : Memref sig c.2.kind sp s e} {q : PosShare TreeShare} {X : s.Idx → Val e} :
    Rd (Ix := Ix) (Name := Name) (U := U) (Lvl := Lvl) c (owns c m q X : sProp (MT nD τ sig Ix Val Name U Lvl)) m := by
  unfold Rd Idealize.ShloMosaic.owns
  iintro ⟨%f, %hf, H⟩
  iexists q, m.view.set, f
  isplitr; · ipureintro; exact Finset.Subset.refl _
  isplitl [H]; · iexact H
  iintro H
  iexists f
  isplitr; · ipureintro; exact hf
  iexact H

/-- A memref owned at some contents is lent for writing. -/
theorem Wr.owns {m : Memref sig c.2.kind sp s e} :
    Wr (Ix := Ix) (Name := Name) (U := U) (Lvl := Lvl) c (iprop(∃ X, Idealize.ShloMosaic.owns c m fullShare X) : sProp (MT nD τ sig Ix Val Name U Lvl)) m := by
  unfold Wr Idealize.ShloMosaic.owns
  iintro ⟨%X, %f, -, H⟩
  iexists m.view.set, f
  isplitr; · ipureintro; exact Finset.Subset.refl _
  isplitl [H]; · iexact H
  iintro %f' H
  iexists m.view.read Val f'
  iexists f'
  isplitr; · ipureintro; rfl
  iexact H

/-- Reading through the left part of a conjunction. -/
theorem Rd.left {m : Memref sig c.2.kind sp s e} (h : Rd (Ix := Ix) (Name := Name) (U := U) (Lvl := Lvl) c R m) : Rd (Ix := Ix) (Name := Name) (U := U) (Lvl := Lvl) c (iprop(R ∗ P) : sProp (MT nD τ sig Ix Val Name U Lvl)) m := by
  refine (sep_mono_left h).trans ?_
  iintro ⟨⟨%q, %S, %f, %hS, H, Hk⟩, HP⟩
  iexists q, S, f
  isplitr; · ipureintro; exact hS
  isplitl [H]; · iexact H
  iintro H
  isplitl [H Hk]
  · iapply Hk; iexact H
  iexact HP

/-- Reading through the right part of a conjunction. -/
theorem Rd.right {m : Memref sig c.2.kind sp s e} (h : Rd (Ix := Ix) (Name := Name) (U := U) (Lvl := Lvl) c R m) : Rd (Ix := Ix) (Name := Name) (U := U) (Lvl := Lvl) c (iprop(P ∗ R) : sProp (MT nD τ sig Ix Val Name U Lvl)) m := by
  refine (sep_mono_right h).trans ?_
  iintro ⟨HP, ⟨%q, %S, %f, %hS, H, Hk⟩⟩
  iexists q, S, f
  isplitr; · ipureintro; exact hS
  isplitl [H]; · iexact H
  iintro H
  isplitl [HP]
  · iexact HP
  iapply Hk; iexact H

/-- Writing through the left part of a conjunction. -/
theorem Wr.left {m : Memref sig c.2.kind sp s e} (h : Wr (Ix := Ix) (Name := Name) (U := U) (Lvl := Lvl) c R m) : Wr (Ix := Ix) (Name := Name) (U := U) (Lvl := Lvl) c (iprop(R ∗ P) : sProp (MT nD τ sig Ix Val Name U Lvl)) m := by
  refine (sep_mono_left h).trans ?_
  iintro ⟨⟨%S, %f, %hS, H, Hk⟩, HP⟩
  iexists S, f
  isplitr; · ipureintro; exact hS
  isplitl [H]; · iexact H
  iintro %f' H
  isplitl [H Hk]
  · iapply Hk; iexact H
  iexact HP

/-- Writing through the right part of a conjunction. -/
theorem Wr.right {m : Memref sig c.2.kind sp s e} (h : Wr (Ix := Ix) (Name := Name) (U := U) (Lvl := Lvl) c R m) : Wr (Ix := Ix) (Name := Name) (U := U) (Lvl := Lvl) c (iprop(P ∗ R) : sProp (MT nD τ sig Ix Val Name U Lvl)) m := by
  refine (sep_mono_right h).trans ?_
  iintro ⟨HP, ⟨%S, %f, %hS, H, Hk⟩⟩
  iexists S, f
  isplitr; · ipureintro; exact hS
  isplitl [H]; · iexact H
  iintro %f' H
  isplitl [HP]
  · iexact HP
  iapply Hk; iexact H

/-- A window of a memref is lent for reading when the memref is. -/
theorem Rd.slice {m : Memref sig c.2.kind sp s e} (h : Rd (Ix := Ix) (Name := Name) (U := U) (Lvl := Lvl) c R m) (r : Rect s) (hr : ∀ a, r.stride a = 1) :
    Rd (Ix := Ix) (Name := Name) (U := U) (Lvl := Lvl) c R (m.slice r hr) := by
  unfold Rd at h ⊢
  refine h.trans ?_
  iintro ⟨%q, %S, %f, %hS, H, Hk⟩
  iexists q, S, f
  isplitr; · ipureintro; exact (View.set_slice_subset _ _).trans hS
  isplitl [H]; · iexact H
  iexact Hk

/-- A window of a memref is lent for writing when the memref is. -/
theorem Wr.slice {m : Memref sig c.2.kind sp s e} (h : Wr (Ix := Ix) (Name := Name) (U := U) (Lvl := Lvl) c R m) (r : Rect s) (hr : ∀ a, r.stride a = 1) :
    Wr (Ix := Ix) (Name := Name) (U := U) (Lvl := Lvl) c R (m.slice r hr) := by
  unfold Wr at h ⊢
  refine h.trans ?_
  iintro ⟨%S, %f, %hS, H, Hk⟩
  iexists S, f
  isplitr; · ipureintro; exact (View.set_slice_subset _ _).trans hS
  isplitl [H]; · iexact H
  iexact Hk

/-- A memref read at another shape is lent for reading when it is. -/
theorem Rd.squeeze {m : Memref sig c.2.kind sp s e} (h : Rd (Ix := Ix) (Name := Name) (U := U) (Lvl := Lvl) c R m) (hs : s.Squeezes s') :
    Rd (Ix := Ix) (Name := Name) (U := U) (Lvl := Lvl) c R (m.squeeze s' hs) := by
  unfold Rd at h ⊢
  refine h.trans ?_
  iintro ⟨%q, %S, %f, %hS, H, Hk⟩
  iexists q, S, f
  isplitr; · ipureintro; exact (View.set_reshape _ _).subset.trans hS
  isplitl [H]; · iexact H
  iexact Hk

/-- A memref written at another shape is lent for writing when it is. -/
theorem Wr.squeeze {m : Memref sig c.2.kind sp s e} (h : Wr (Ix := Ix) (Name := Name) (U := U) (Lvl := Lvl) c R m) (hs : s.Squeezes s') :
    Wr (Ix := Ix) (Name := Name) (U := U) (Lvl := Lvl) c R (m.squeeze s' hs) := by
  unfold Wr at h ⊢
  refine h.trans ?_
  iintro ⟨%S, %f, %hS, H, Hk⟩
  iexists S, f
  isplitr; · ipureintro; exact (View.set_reshape _ _).subset.trans hS
  isplitl [H]; · iexact H
  iexact Hk

variable (defs : Defs nD τ sig Val Λ) (𝒱 : Variants) (E : Set Name)

/-- Holding `R`, the program runs and hands `R` back. -/
def Safe (c : Thread nD τ) (R : sProp (MT nD τ sig Ix Val Name U Lvl)) {α : Type} (p : Prog (TpuEff nD τ sig Val Λ c.2) α) : Prop :=
  R ⊢ wp frame (wpE (Ix := Ix) (Name := Name) (U := U) (Lvl := Lvl) defs 𝒱 c none) E p (fun _ => R)

variable {defs 𝒱 E} {α β : Type}

theorem Safe.pure (x : α) : Safe (Ix := Ix) (Name := Name) (U := U) (Lvl := Lvl) defs 𝒱 E c R (Pure.pure x : Prog (TpuEff nD τ sig Val Λ c.2) α) := by
  unfold Safe
  rw [wp_pure]
  exact BI.fupd_intro

theorem Safe.bind {p : Prog (TpuEff nD τ sig Val Λ c.2) α} {k : α → Prog (TpuEff nD τ sig Val Λ c.2) β}
    (hp : Safe (Ix := Ix) (Name := Name) (U := U) (Lvl := Lvl) defs 𝒱 E c R p) (hk : ∀ x, Safe (Ix := Ix) (Name := Name) (U := U) (Lvl := Lvl) defs 𝒱 E c R (k x)) : Safe (Ix := Ix) (Name := Name) (U := U) (Lvl := Lvl) defs 𝒱 E c R (p >>= k) := by
  unfold Safe at hp hk ⊢
  rw [wp_bind]
  exact hp.trans ((wp _ _ _ p).mono fun x => hk x)

/-- A conditional is safe when both its arms are. -/
theorem Safe.dite {C : Prop} [Decidable C] {p : C → Prog (TpuEff nD τ sig Val Λ c.2) α} {p' : ¬C → Prog (TpuEff nD τ sig Val Λ c.2) α}
    (hp : ∀ h, Safe (Ix := Ix) (Name := Name) (U := U) (Lvl := Lvl) defs 𝒱 E c R (p h)) (hp' : ∀ h, Safe (Ix := Ix) (Name := Name) (U := U) (Lvl := Lvl) defs 𝒱 E c R (p' h)) :
    Safe (Ix := Ix) (Name := Name) (U := U) (Lvl := Lvl) defs 𝒱 E c R (if h : C then p h else p' h) := by
  by_cases h : C
  · rw [dif_pos h]; exact hp h
  · rw [dif_neg h]; exact hp' h

/-- A load is safe when its memref is lent for reading. -/
theorem Safe.load {cs : CoreSpace} {m : Memref sig c.2.kind cs s e} {r : LoadRect s} {hl : m.view.LoadsAt r}
    (h : Rd (Ix := Ix) (Name := Name) (U := U) (Lvl := Lvl) c R m) :
    Safe (Ix := Ix) (Name := Name) (U := U) (Lvl := Lvl) defs 𝒱 E c R (Prog.lift (.load m r hl) : Prog (TpuEff nD τ sig Val Λ c.2) _) := by
  unfold Rd at h; unfold Safe
  refine h.trans ?_
  iintro ⟨%q, %S, %f, %hS, H, Hk⟩
  iapply (wp_load 𝒱 c none E ((View.setOn_subset_set _ _).trans hS)) $$ [H]
  · iexact H
  iintro H
  rw [wp_ret]
  iapply BI.fupd_intro
  iapply Hk
  iexact H

/-- A store is safe when its memref is lent for writing. -/
theorem Safe.store {cs : CoreSpace} {m : Memref sig c.2.kind cs s e} {r : Rect s} {w : r.shape.Idx → Val e} {Mk : Finset r.shape.Idx}
    {hx : (m.access r).Stores Mk} {hm : Mk = Finset.univ ∨ ∀ a, r.stride a = 1} (h : Wr (Ix := Ix) (Name := Name) (U := U) (Lvl := Lvl) c R m) :
    Safe (Ix := Ix) (Name := Name) (U := U) (Lvl := Lvl) defs 𝒱 E c R (Prog.lift (.store m r w Mk hx hm) : Prog (TpuEff nD τ sig Val Λ c.2) _) := by
  unfold Wr at h; unfold Safe
  refine h.trans ?_
  iintro ⟨%S, %f, %hS, H, Hk⟩
  iapply (wp_store 𝒱 c none E (((View.setOn_subset_set _ _).trans (View.set_slice_subset _ _)).trans hS)) $$ [H]
  · iexact H
  iintro H
  rw [wp_ret]
  iapply BI.fupd_intro
  iapply Hk
  iexact H

end Cert.Safety
end
-- ==== Proof.MixerIdealBody.lean ====
/- The mixer's body, safe at every grid point: the printed function is run operation by operation, each load from a
   buffer that is held, each store into one that may change, so that what the body holds is what it hands back. -/
module

public import proofs.«01_k».proof.Proof.Safe
public import proofs.«01_k».proof.Proof.Gen.MixerIdeal.Skeleton

@[expose] public section

set_option maxRecDepth 65536
set_option maxHeartbeats 4000000

noncomputable section

namespace Cert.MixerIdeal.Gen

open Idealize.ShloMosaic Idealize.ShloMosaic.TcCoe Cert.Safety
open Idealize.SL Idealize.SL.RA Idealize.SL.BI Idealize.SL.Sem

variable {F : FTy → Type} [FloatOps F] [Named F]
variable {c : Dev nD} {R : sProp (MT nD τ sig Unit (Elt F) ℕ (UR sig nD τ) ℕ)} {E : Set ℕ} (i : grid0.Coords)
variable {arg1 : Memref sig .tc .vmem S512x2048 .f32} {harg1 : arg1.IsWhole}
variable {arg2 : Memref sig .tc .vmem S1x2048 .f32} {harg2 : arg2.IsWhole}
variable {arg3 : Memref sig .tc .vmem S512x256 .f32} {harg3 : arg3.IsWhole}
variable {arg4 : Memref sig .tc .vmem S1x256 .f32} {harg4 : arg4.IsWhole}
variable {arg5 : Memref sig .tc .vmem S1x256 .f32} {harg5 : arg5.IsWhole}
variable {arg6 : Memref sig .tc .vmem S1x256 .f32} {harg6 : arg6.IsWhole}
variable {arg7 : Memref sig .tc .vmem S1x8x2048x256 .bf16} {harg7 : arg7.IsWhole}
variable {arg8 : Memref sig .tc .vmem S16x5632 .f32} {harg8 : arg8.IsWhole}
variable {arg9 : Memref sig .tc .vmem S16x5632 .f32} {harg9 : arg9.IsWhole}
variable {arg10 : Memref sig .tc .vmem S64x2048 .f32} {harg10 : arg10.IsWhole}
variable {arg11 : Memref sig .tc .vmem S16x2048 .f32} {harg11 : arg11.IsWhole}
variable {arg12 : Memref sig .tc .vmem S512x256 .bf16} {harg12 : arg12.IsWhole}
variable {arg13 : Memref sig .tc .vmem S512x256 .bf16} {harg13 : arg13.IsWhole}
variable {arg14 : Memref sig .tc .vmem S16x5632 .bf16} {harg14 : arg14.IsWhole}
variable {arg15 : Memref sig .tc .vmem S16x5632 .bf16} {harg15 : arg15.IsWhole}
variable {arg16 : Memref sig .tc .vmem S64x2048 .bf16} {harg16 : arg16.IsWhole}
variable {arg17 : Memref sig .tc .vmem S16x2048 .bf16} {harg17 : arg17.IsWhole}
variable {arg18 : Memref sig .tc .vmem S512x2048 .bf16} {harg18 : arg18.IsWhole}
variable {arg19 : Memref sig .tc .vmem S2x8x512x256 .bf16} {harg19 : arg19.IsWhole}
variable {arg20 : Memref sig .tc .vmem S2x512x256 .f32} {harg20 : arg20.IsWhole}
variable {arg21 : Memref sig .tc .vmem S4x256x256 .f32} {harg21 : arg21.IsWhole}
variable {arg22 : Memref sig .tc .vmem S8x128x128 .f32} {harg22 : arg22.IsWhole}
variable {arg23 : Memref sig .tc .vmem S2x512x128 .f32} {harg23 : arg23.IsWhole}
variable (h1 : Rd (c : Thread nD τ) R arg1)
variable (h2 : Rd (c : Thread nD τ) R arg2)
variable (h3 : Rd (c : Thread nD τ) R arg3)
variable (h4 : Rd (c : Thread nD τ) R arg4)
variable (h5 : Rd (c : Thread nD τ) R arg5)
variable (h6 : Rd (c : Thread nD τ) R arg6)
variable (h7 : Rd (c : Thread nD τ) R arg7)
variable (h8 : Rd (c : Thread nD τ) R arg8)
variable (h9 : Rd (c : Thread nD τ) R arg9)
variable (h10 : Rd (c : Thread nD τ) R arg10)
variable (h11 : Rd (c : Thread nD τ) R arg11)
variable (h12 : Wr (c : Thread nD τ) R arg12)
variable (h13 : Wr (c : Thread nD τ) R arg13)
variable (h14 : Wr (c : Thread nD τ) R arg14)
variable (h15 : Wr (c : Thread nD τ) R arg15)
variable (h16 : Wr (c : Thread nD τ) R arg16)
variable (h17 : Wr (c : Thread nD τ) R arg17)
variable (h18 : Wr (c : Thread nD τ) R arg18)
variable (h19 : Wr (c : Thread nD τ) R arg19)
variable (h20 : Wr (c : Thread nD τ) R arg20)
variable (h21 : Wr (c : Thread nD τ) R arg21)
variable (h22 : Wr (c : Thread nD τ) R arg22)
variable (h23 : Wr (c : Thread nD τ) R arg23)
include h1 h2 h3 h4 h5 h6 h7 h8 h9 h10 h11 h12 h13 h14 h15 h16 h17 h18 h19 h20 h21 h22 h23

theorem safe_part364 :
    Safe defs₀ Variants.none E (c : Thread nD τ) R (k0_part364 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part364_eq_skeleton]; unfold k0_part364_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part1_eq_skeleton]; unfold k0_part1_skel; try dsimp only)
    | (rw [k0_part2_eq_skeleton]; unfold k0_part2_skel; try dsimp only)
    | (rw [k0_part3_eq_skeleton]; unfold k0_part3_skel; try dsimp only)
    | (rw [k0_part4_eq_skeleton]; unfold k0_part4_skel; try dsimp only)
    | (rw [k0_part5_eq_skeleton]; unfold k0_part5_skel; try dsimp only)
    | (rw [k0_part6_eq_skeleton]; unfold k0_part6_skel; try dsimp only)
    | (rw [k0_part7_eq_skeleton]; unfold k0_part7_skel; try dsimp only)
    | (rw [k0_part8_eq_skeleton]; unfold k0_part8_skel; try dsimp only)
    | (rw [k0_part9_eq_skeleton]; unfold k0_part9_skel; try dsimp only)
    | (rw [k0_part10_eq_skeleton]; unfold k0_part10_skel; try dsimp only)
    | (rw [k0_part11_eq_skeleton]; unfold k0_part11_skel; try dsimp only)
    | (rw [k0_part12_eq_skeleton]; unfold k0_part12_skel; try dsimp only)
    | (rw [k0_part13_eq_skeleton]; unfold k0_part13_skel; try dsimp only)
    | (rw [k0_part14_eq_skeleton]; unfold k0_part14_skel; try dsimp only)
    | (rw [k0_part15_eq_skeleton]; unfold k0_part15_skel; try dsimp only)
    | (rw [k0_part16_eq_skeleton]; unfold k0_part16_skel; try dsimp only)
    | (rw [k0_part17_eq_skeleton]; unfold k0_part17_skel; try dsimp only)
    | (rw [k0_part18_eq_skeleton]; unfold k0_part18_skel; try dsimp only)
    | (rw [k0_part19_eq_skeleton]; unfold k0_part19_skel; try dsimp only)
    | (rw [k0_part20_eq_skeleton]; unfold k0_part20_skel; try dsimp only)
    | (rw [k0_part21_eq_skeleton]; unfold k0_part21_skel; try dsimp only)
    | (rw [k0_part22_eq_skeleton]; unfold k0_part22_skel; try dsimp only)
    | (rw [k0_part23_eq_skeleton]; unfold k0_part23_skel; try dsimp only)
    | (rw [k0_part24_eq_skeleton]; unfold k0_part24_skel; try dsimp only)
    | (rw [k0_part25_eq_skeleton]; unfold k0_part25_skel; try dsimp only)
    | (rw [k0_part26_eq_skeleton]; unfold k0_part26_skel; try dsimp only)
    | (rw [k0_part27_eq_skeleton]; unfold k0_part27_skel; try dsimp only)
    | (rw [k0_part28_eq_skeleton]; unfold k0_part28_skel; try dsimp only)
    | (rw [k0_part29_eq_skeleton]; unfold k0_part29_skel; try dsimp only)
    | (rw [k0_part30_eq_skeleton]; unfold k0_part30_skel; try dsimp only)
    | (rw [k0_part31_eq_skeleton]; unfold k0_part31_skel; try dsimp only)
    | (rw [k0_part32_eq_skeleton]; unfold k0_part32_skel; try dsimp only)
    | (rw [k0_part33_eq_skeleton]; unfold k0_part33_skel; try dsimp only)
    | (rw [k0_part34_eq_skeleton]; unfold k0_part34_skel; try dsimp only)
    | (rw [k0_part35_eq_skeleton]; unfold k0_part35_skel; try dsimp only)
    | (rw [k0_part36_eq_skeleton]; unfold k0_part36_skel; try dsimp only)
    | (rw [k0_part37_eq_skeleton]; unfold k0_part37_skel; try dsimp only)
    | (rw [k0_part38_eq_skeleton]; unfold k0_part38_skel; try dsimp only)
    | (rw [k0_part39_eq_skeleton]; unfold k0_part39_skel; try dsimp only)
    | (rw [k0_part40_eq_skeleton]; unfold k0_part40_skel; try dsimp only)
    | (rw [k0_part41_eq_skeleton]; unfold k0_part41_skel; try dsimp only)
    | (rw [k0_part42_eq_skeleton]; unfold k0_part42_skel; try dsimp only)
    | (rw [k0_part43_eq_skeleton]; unfold k0_part43_skel; try dsimp only)
    | (rw [k0_part44_eq_skeleton]; unfold k0_part44_skel; try dsimp only)
    | (rw [k0_part45_eq_skeleton]; unfold k0_part45_skel; try dsimp only)
    | (rw [k0_part46_eq_skeleton]; unfold k0_part46_skel; try dsimp only)
    | (rw [k0_part47_eq_skeleton]; unfold k0_part47_skel; try dsimp only)
    | (rw [k0_part48_eq_skeleton]; unfold k0_part48_skel; try dsimp only)
    | (rw [k0_part49_eq_skeleton]; unfold k0_part49_skel; try dsimp only)
    | (rw [k0_part50_eq_skeleton]; unfold k0_part50_skel; try dsimp only)
    | (rw [k0_part51_eq_skeleton]; unfold k0_part51_skel; try dsimp only)
    | (rw [k0_part52_eq_skeleton]; unfold k0_part52_skel; try dsimp only)
    | (rw [k0_part53_eq_skeleton]; unfold k0_part53_skel; try dsimp only)
    | (rw [k0_part54_eq_skeleton]; unfold k0_part54_skel; try dsimp only)
    | (rw [k0_part55_eq_skeleton]; unfold k0_part55_skel; try dsimp only)
    | (rw [k0_part56_eq_skeleton]; unfold k0_part56_skel; try dsimp only)
    | (rw [k0_part57_eq_skeleton]; unfold k0_part57_skel; try dsimp only)
    | (rw [k0_part58_eq_skeleton]; unfold k0_part58_skel; try dsimp only)
    | (rw [k0_part59_eq_skeleton]; unfold k0_part59_skel; try dsimp only)
    | (rw [k0_part60_eq_skeleton]; unfold k0_part60_skel; try dsimp only)

theorem safe_part365 (v127 v294 v295 v415 v430 v445 v460 v2279 v2395 v2396 v2481 v2484) :
    Safe defs₀ Variants.none E (c : Thread nD τ) R (k0_part365 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v415 v430 v445 v460 v2279 v2395 v2396 v2481 v2484) := by
  rw [k0_part365_eq_skeleton]; unfold k0_part365_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part61_eq_skeleton]; unfold k0_part61_skel; try dsimp only)
    | (rw [k0_part62_eq_skeleton]; unfold k0_part62_skel; try dsimp only)
    | (rw [k0_part63_eq_skeleton]; unfold k0_part63_skel; try dsimp only)
    | (rw [k0_part64_eq_skeleton]; unfold k0_part64_skel; try dsimp only)
    | (rw [k0_part65_eq_skeleton]; unfold k0_part65_skel; try dsimp only)
    | (rw [k0_part66_eq_skeleton]; unfold k0_part66_skel; try dsimp only)
    | (rw [k0_part67_eq_skeleton]; unfold k0_part67_skel; try dsimp only)
    | (rw [k0_part68_eq_skeleton]; unfold k0_part68_skel; try dsimp only)
    | (rw [k0_part69_eq_skeleton]; unfold k0_part69_skel; try dsimp only)
    | (rw [k0_part70_eq_skeleton]; unfold k0_part70_skel; try dsimp only)
    | (rw [k0_part71_eq_skeleton]; unfold k0_part71_skel; try dsimp only)
    | (rw [k0_part72_eq_skeleton]; unfold k0_part72_skel; try dsimp only)
    | (rw [k0_part73_eq_skeleton]; unfold k0_part73_skel; try dsimp only)
    | (rw [k0_part74_eq_skeleton]; unfold k0_part74_skel; try dsimp only)
    | (rw [k0_part75_eq_skeleton]; unfold k0_part75_skel; try dsimp only)
    | (rw [k0_part76_eq_skeleton]; unfold k0_part76_skel; try dsimp only)
    | (rw [k0_part77_eq_skeleton]; unfold k0_part77_skel; try dsimp only)
    | (rw [k0_part78_eq_skeleton]; unfold k0_part78_skel; try dsimp only)
    | (rw [k0_part79_eq_skeleton]; unfold k0_part79_skel; try dsimp only)
    | (rw [k0_part80_eq_skeleton]; unfold k0_part80_skel; try dsimp only)
    | (rw [k0_part81_eq_skeleton]; unfold k0_part81_skel; try dsimp only)
    | (rw [k0_part82_eq_skeleton]; unfold k0_part82_skel; try dsimp only)
    | (rw [k0_part83_eq_skeleton]; unfold k0_part83_skel; try dsimp only)
    | (rw [k0_part84_eq_skeleton]; unfold k0_part84_skel; try dsimp only)
    | (rw [k0_part85_eq_skeleton]; unfold k0_part85_skel; try dsimp only)
    | (rw [k0_part86_eq_skeleton]; unfold k0_part86_skel; try dsimp only)
    | (rw [k0_part87_eq_skeleton]; unfold k0_part87_skel; try dsimp only)
    | (rw [k0_part88_eq_skeleton]; unfold k0_part88_skel; try dsimp only)
    | (rw [k0_part89_eq_skeleton]; unfold k0_part89_skel; try dsimp only)
    | (rw [k0_part90_eq_skeleton]; unfold k0_part90_skel; try dsimp only)
    | (rw [k0_part91_eq_skeleton]; unfold k0_part91_skel; try dsimp only)
    | (rw [k0_part92_eq_skeleton]; unfold k0_part92_skel; try dsimp only)
    | (rw [k0_part93_eq_skeleton]; unfold k0_part93_skel; try dsimp only)
    | (rw [k0_part94_eq_skeleton]; unfold k0_part94_skel; try dsimp only)
    | (rw [k0_part95_eq_skeleton]; unfold k0_part95_skel; try dsimp only)
    | (rw [k0_part96_eq_skeleton]; unfold k0_part96_skel; try dsimp only)
    | (rw [k0_part97_eq_skeleton]; unfold k0_part97_skel; try dsimp only)
    | (rw [k0_part98_eq_skeleton]; unfold k0_part98_skel; try dsimp only)
    | (rw [k0_part99_eq_skeleton]; unfold k0_part99_skel; try dsimp only)
    | (rw [k0_part100_eq_skeleton]; unfold k0_part100_skel; try dsimp only)
    | (rw [k0_part101_eq_skeleton]; unfold k0_part101_skel; try dsimp only)
    | (rw [k0_part102_eq_skeleton]; unfold k0_part102_skel; try dsimp only)
    | (rw [k0_part103_eq_skeleton]; unfold k0_part103_skel; try dsimp only)
    | (rw [k0_part104_eq_skeleton]; unfold k0_part104_skel; try dsimp only)
    | (rw [k0_part105_eq_skeleton]; unfold k0_part105_skel; try dsimp only)
    | (rw [k0_part106_eq_skeleton]; unfold k0_part106_skel; try dsimp only)
    | (rw [k0_part107_eq_skeleton]; unfold k0_part107_skel; try dsimp only)
    | (rw [k0_part108_eq_skeleton]; unfold k0_part108_skel; try dsimp only)
    | (rw [k0_part109_eq_skeleton]; unfold k0_part109_skel; try dsimp only)
    | (rw [k0_part110_eq_skeleton]; unfold k0_part110_skel; try dsimp only)
    | (rw [k0_part111_eq_skeleton]; unfold k0_part111_skel; try dsimp only)
    | (rw [k0_part112_eq_skeleton]; unfold k0_part112_skel; try dsimp only)
    | (rw [k0_part113_eq_skeleton]; unfold k0_part113_skel; try dsimp only)
    | (rw [k0_part114_eq_skeleton]; unfold k0_part114_skel; try dsimp only)
    | (rw [k0_part115_eq_skeleton]; unfold k0_part115_skel; try dsimp only)
    | (rw [k0_part116_eq_skeleton]; unfold k0_part116_skel; try dsimp only)
    | (rw [k0_part117_eq_skeleton]; unfold k0_part117_skel; try dsimp only)
    | (rw [k0_part118_eq_skeleton]; unfold k0_part118_skel; try dsimp only)
    | (rw [k0_part119_eq_skeleton]; unfold k0_part119_skel; try dsimp only)
    | (rw [k0_part120_eq_skeleton]; unfold k0_part120_skel; try dsimp only)

theorem safe_part366 (v127 v294 v295 v298 v299 v460 v475 v490 v505 v4688 v4804 v4805 v4869 v4885) :
    Safe defs₀ Variants.none E (c : Thread nD τ) R (k0_part366 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v298 v299 v460 v475 v490 v505 v4688 v4804 v4805 v4869 v4885) := by
  rw [k0_part366_eq_skeleton]; unfold k0_part366_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part121_eq_skeleton]; unfold k0_part121_skel; try dsimp only)
    | (rw [k0_part122_eq_skeleton]; unfold k0_part122_skel; try dsimp only)
    | (rw [k0_part123_eq_skeleton]; unfold k0_part123_skel; try dsimp only)
    | (rw [k0_part124_eq_skeleton]; unfold k0_part124_skel; try dsimp only)
    | (rw [k0_part125_eq_skeleton]; unfold k0_part125_skel; try dsimp only)
    | (rw [k0_part126_eq_skeleton]; unfold k0_part126_skel; try dsimp only)
    | (rw [k0_part127_eq_skeleton]; unfold k0_part127_skel; try dsimp only)
    | (rw [k0_part128_eq_skeleton]; unfold k0_part128_skel; try dsimp only)
    | (rw [k0_part129_eq_skeleton]; unfold k0_part129_skel; try dsimp only)
    | (rw [k0_part130_eq_skeleton]; unfold k0_part130_skel; try dsimp only)
    | (rw [k0_part131_eq_skeleton]; unfold k0_part131_skel; try dsimp only)
    | (rw [k0_part132_eq_skeleton]; unfold k0_part132_skel; try dsimp only)
    | (rw [k0_part133_eq_skeleton]; unfold k0_part133_skel; try dsimp only)
    | (rw [k0_part134_eq_skeleton]; unfold k0_part134_skel; try dsimp only)
    | (rw [k0_part135_eq_skeleton]; unfold k0_part135_skel; try dsimp only)
    | (rw [k0_part136_eq_skeleton]; unfold k0_part136_skel; try dsimp only)
    | (rw [k0_part137_eq_skeleton]; unfold k0_part137_skel; try dsimp only)
    | (rw [k0_part138_eq_skeleton]; unfold k0_part138_skel; try dsimp only)
    | (rw [k0_part139_eq_skeleton]; unfold k0_part139_skel; try dsimp only)
    | (rw [k0_part140_eq_skeleton]; unfold k0_part140_skel; try dsimp only)
    | (rw [k0_part141_eq_skeleton]; unfold k0_part141_skel; try dsimp only)
    | (rw [k0_part142_eq_skeleton]; unfold k0_part142_skel; try dsimp only)
    | (rw [k0_part143_eq_skeleton]; unfold k0_part143_skel; try dsimp only)
    | (rw [k0_part144_eq_skeleton]; unfold k0_part144_skel; try dsimp only)
    | (rw [k0_part145_eq_skeleton]; unfold k0_part145_skel; try dsimp only)
    | (rw [k0_part146_eq_skeleton]; unfold k0_part146_skel; try dsimp only)
    | (rw [k0_part147_eq_skeleton]; unfold k0_part147_skel; try dsimp only)
    | (rw [k0_part148_eq_skeleton]; unfold k0_part148_skel; try dsimp only)
    | (rw [k0_part149_eq_skeleton]; unfold k0_part149_skel; try dsimp only)
    | (rw [k0_part150_eq_skeleton]; unfold k0_part150_skel; try dsimp only)
    | (rw [k0_part151_eq_skeleton]; unfold k0_part151_skel; try dsimp only)
    | (rw [k0_part152_eq_skeleton]; unfold k0_part152_skel; try dsimp only)
    | (rw [k0_part153_eq_skeleton]; unfold k0_part153_skel; try dsimp only)
    | (rw [k0_part154_eq_skeleton]; unfold k0_part154_skel; try dsimp only)
    | (rw [k0_part155_eq_skeleton]; unfold k0_part155_skel; try dsimp only)
    | (rw [k0_part156_eq_skeleton]; unfold k0_part156_skel; try dsimp only)
    | (rw [k0_part157_eq_skeleton]; unfold k0_part157_skel; try dsimp only)
    | (rw [k0_part158_eq_skeleton]; unfold k0_part158_skel; try dsimp only)
    | (rw [k0_part159_eq_skeleton]; unfold k0_part159_skel; try dsimp only)
    | (rw [k0_part160_eq_skeleton]; unfold k0_part160_skel; try dsimp only)
    | (rw [k0_part161_eq_skeleton]; unfold k0_part161_skel; try dsimp only)
    | (rw [k0_part162_eq_skeleton]; unfold k0_part162_skel; try dsimp only)
    | (rw [k0_part163_eq_skeleton]; unfold k0_part163_skel; try dsimp only)
    | (rw [k0_part164_eq_skeleton]; unfold k0_part164_skel; try dsimp only)
    | (rw [k0_part165_eq_skeleton]; unfold k0_part165_skel; try dsimp only)
    | (rw [k0_part166_eq_skeleton]; unfold k0_part166_skel; try dsimp only)
    | (rw [k0_part167_eq_skeleton]; unfold k0_part167_skel; try dsimp only)
    | (rw [k0_part168_eq_skeleton]; unfold k0_part168_skel; try dsimp only)
    | (rw [k0_part169_eq_skeleton]; unfold k0_part169_skel; try dsimp only)
    | (rw [k0_part170_eq_skeleton]; unfold k0_part170_skel; try dsimp only)
    | (rw [k0_part171_eq_skeleton]; unfold k0_part171_skel; try dsimp only)
    | (rw [k0_part172_eq_skeleton]; unfold k0_part172_skel; try dsimp only)
    | (rw [k0_part173_eq_skeleton]; unfold k0_part173_skel; try dsimp only)
    | (rw [k0_part174_eq_skeleton]; unfold k0_part174_skel; try dsimp only)
    | (rw [k0_part175_eq_skeleton]; unfold k0_part175_skel; try dsimp only)
    | (rw [k0_part176_eq_skeleton]; unfold k0_part176_skel; try dsimp only)
    | (rw [k0_part177_eq_skeleton]; unfold k0_part177_skel; try dsimp only)
    | (rw [k0_part178_eq_skeleton]; unfold k0_part178_skel; try dsimp only)
    | (rw [k0_part179_eq_skeleton]; unfold k0_part179_skel; try dsimp only)
    | (rw [k0_part180_eq_skeleton]; unfold k0_part180_skel; try dsimp only)

theorem safe_part367 (v127 v298 v299 v505 v520 v535 v550 v7097 v7213 v7214 v7278 v7281) :
    Safe defs₀ Variants.none E (c : Thread nD τ) R (k0_part367 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v298 v299 v505 v520 v535 v550 v7097 v7213 v7214 v7278 v7281) := by
  rw [k0_part367_eq_skeleton]; unfold k0_part367_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part181_eq_skeleton]; unfold k0_part181_skel; try dsimp only)
    | (rw [k0_part182_eq_skeleton]; unfold k0_part182_skel; try dsimp only)
    | (rw [k0_part183_eq_skeleton]; unfold k0_part183_skel; try dsimp only)
    | (rw [k0_part184_eq_skeleton]; unfold k0_part184_skel; try dsimp only)
    | (rw [k0_part185_eq_skeleton]; unfold k0_part185_skel; try dsimp only)
    | (rw [k0_part186_eq_skeleton]; unfold k0_part186_skel; try dsimp only)
    | (rw [k0_part187_eq_skeleton]; unfold k0_part187_skel; try dsimp only)
    | (rw [k0_part188_eq_skeleton]; unfold k0_part188_skel; try dsimp only)
    | (rw [k0_part189_eq_skeleton]; unfold k0_part189_skel; try dsimp only)
    | (rw [k0_part190_eq_skeleton]; unfold k0_part190_skel; try dsimp only)
    | (rw [k0_part191_eq_skeleton]; unfold k0_part191_skel; try dsimp only)
    | (rw [k0_part192_eq_skeleton]; unfold k0_part192_skel; try dsimp only)
    | (rw [k0_part193_eq_skeleton]; unfold k0_part193_skel; try dsimp only)
    | (rw [k0_part194_eq_skeleton]; unfold k0_part194_skel; try dsimp only)
    | (rw [k0_part195_eq_skeleton]; unfold k0_part195_skel; try dsimp only)
    | (rw [k0_part196_eq_skeleton]; unfold k0_part196_skel; try dsimp only)
    | (rw [k0_part197_eq_skeleton]; unfold k0_part197_skel; try dsimp only)
    | (rw [k0_part198_eq_skeleton]; unfold k0_part198_skel; try dsimp only)
    | (rw [k0_part199_eq_skeleton]; unfold k0_part199_skel; try dsimp only)
    | (rw [k0_part200_eq_skeleton]; unfold k0_part200_skel; try dsimp only)
    | (rw [k0_part201_eq_skeleton]; unfold k0_part201_skel; try dsimp only)
    | (rw [k0_part202_eq_skeleton]; unfold k0_part202_skel; try dsimp only)
    | (rw [k0_part203_eq_skeleton]; unfold k0_part203_skel; try dsimp only)
    | (rw [k0_part204_eq_skeleton]; unfold k0_part204_skel; try dsimp only)
    | (rw [k0_part205_eq_skeleton]; unfold k0_part205_skel; try dsimp only)
    | (rw [k0_part206_eq_skeleton]; unfold k0_part206_skel; try dsimp only)
    | (rw [k0_part207_eq_skeleton]; unfold k0_part207_skel; try dsimp only)
    | (rw [k0_part208_eq_skeleton]; unfold k0_part208_skel; try dsimp only)
    | (rw [k0_part209_eq_skeleton]; unfold k0_part209_skel; try dsimp only)
    | (rw [k0_part210_eq_skeleton]; unfold k0_part210_skel; try dsimp only)
    | (rw [k0_part211_eq_skeleton]; unfold k0_part211_skel; try dsimp only)
    | (rw [k0_part212_eq_skeleton]; unfold k0_part212_skel; try dsimp only)
    | (rw [k0_part213_eq_skeleton]; unfold k0_part213_skel; try dsimp only)
    | (rw [k0_part214_eq_skeleton]; unfold k0_part214_skel; try dsimp only)
    | (rw [k0_part215_eq_skeleton]; unfold k0_part215_skel; try dsimp only)
    | (rw [k0_part216_eq_skeleton]; unfold k0_part216_skel; try dsimp only)
    | (rw [k0_part217_eq_skeleton]; unfold k0_part217_skel; try dsimp only)
    | (rw [k0_part218_eq_skeleton]; unfold k0_part218_skel; try dsimp only)
    | (rw [k0_part219_eq_skeleton]; unfold k0_part219_skel; try dsimp only)
    | (rw [k0_part220_eq_skeleton]; unfold k0_part220_skel; try dsimp only)
    | (rw [k0_part221_eq_skeleton]; unfold k0_part221_skel; try dsimp only)
    | (rw [k0_part222_eq_skeleton]; unfold k0_part222_skel; try dsimp only)
    | (rw [k0_part223_eq_skeleton]; unfold k0_part223_skel; try dsimp only)
    | (rw [k0_part224_eq_skeleton]; unfold k0_part224_skel; try dsimp only)
    | (rw [k0_part225_eq_skeleton]; unfold k0_part225_skel; try dsimp only)
    | (rw [k0_part226_eq_skeleton]; unfold k0_part226_skel; try dsimp only)
    | (rw [k0_part227_eq_skeleton]; unfold k0_part227_skel; try dsimp only)
    | (rw [k0_part228_eq_skeleton]; unfold k0_part228_skel; try dsimp only)
    | (rw [k0_part229_eq_skeleton]; unfold k0_part229_skel; try dsimp only)
    | (rw [k0_part230_eq_skeleton]; unfold k0_part230_skel; try dsimp only)
    | (rw [k0_part231_eq_skeleton]; unfold k0_part231_skel; try dsimp only)
    | (rw [k0_part232_eq_skeleton]; unfold k0_part232_skel; try dsimp only)
    | (rw [k0_part233_eq_skeleton]; unfold k0_part233_skel; try dsimp only)
    | (rw [k0_part234_eq_skeleton]; unfold k0_part234_skel; try dsimp only)
    | (rw [k0_part235_eq_skeleton]; unfold k0_part235_skel; try dsimp only)
    | (rw [k0_part236_eq_skeleton]; unfold k0_part236_skel; try dsimp only)
    | (rw [k0_part237_eq_skeleton]; unfold k0_part237_skel; try dsimp only)
    | (rw [k0_part238_eq_skeleton]; unfold k0_part238_skel; try dsimp only)
    | (rw [k0_part239_eq_skeleton]; unfold k0_part239_skel; try dsimp only)
    | (rw [k0_part240_eq_skeleton]; unfold k0_part240_skel; try dsimp only)

theorem safe_part368 (v127 v298 v299 v550 v565 v580 v595 v9506 v9622 v9623 v9666 v9682 v9684) :
    Safe defs₀ Variants.none E (c : Thread nD τ) R (k0_part368 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v298 v299 v550 v565 v580 v595 v9506 v9622 v9623 v9666 v9682 v9684) := by
  rw [k0_part368_eq_skeleton]; unfold k0_part368_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part241_eq_skeleton]; unfold k0_part241_skel; try dsimp only)
    | (rw [k0_part242_eq_skeleton]; unfold k0_part242_skel; try dsimp only)
    | (rw [k0_part243_eq_skeleton]; unfold k0_part243_skel; try dsimp only)
    | (rw [k0_part244_eq_skeleton]; unfold k0_part244_skel; try dsimp only)
    | (rw [k0_part245_eq_skeleton]; unfold k0_part245_skel; try dsimp only)
    | (rw [k0_part246_eq_skeleton]; unfold k0_part246_skel; try dsimp only)
    | (rw [k0_part247_eq_skeleton]; unfold k0_part247_skel; try dsimp only)
    | (rw [k0_part248_eq_skeleton]; unfold k0_part248_skel; try dsimp only)
    | (rw [k0_part249_eq_skeleton]; unfold k0_part249_skel; try dsimp only)
    | (rw [k0_part250_eq_skeleton]; unfold k0_part250_skel; try dsimp only)
    | (rw [k0_part251_eq_skeleton]; unfold k0_part251_skel; try dsimp only)
    | (rw [k0_part252_eq_skeleton]; unfold k0_part252_skel; try dsimp only)
    | (rw [k0_part253_eq_skeleton]; unfold k0_part253_skel; try dsimp only)
    | (rw [k0_part254_eq_skeleton]; unfold k0_part254_skel; try dsimp only)
    | (rw [k0_part255_eq_skeleton]; unfold k0_part255_skel; try dsimp only)
    | (rw [k0_part256_eq_skeleton]; unfold k0_part256_skel; try dsimp only)
    | (rw [k0_part257_eq_skeleton]; unfold k0_part257_skel; try dsimp only)
    | (rw [k0_part258_eq_skeleton]; unfold k0_part258_skel; try dsimp only)
    | (rw [k0_part259_eq_skeleton]; unfold k0_part259_skel; try dsimp only)
    | (rw [k0_part260_eq_skeleton]; unfold k0_part260_skel; try dsimp only)
    | (rw [k0_part261_eq_skeleton]; unfold k0_part261_skel; try dsimp only)
    | (rw [k0_part262_eq_skeleton]; unfold k0_part262_skel; try dsimp only)
    | (rw [k0_part263_eq_skeleton]; unfold k0_part263_skel; try dsimp only)
    | (rw [k0_part264_eq_skeleton]; unfold k0_part264_skel; try dsimp only)
    | (rw [k0_part265_eq_skeleton]; unfold k0_part265_skel; try dsimp only)
    | (rw [k0_part266_eq_skeleton]; unfold k0_part266_skel; try dsimp only)
    | (rw [k0_part267_eq_skeleton]; unfold k0_part267_skel; try dsimp only)
    | (rw [k0_part268_eq_skeleton]; unfold k0_part268_skel; try dsimp only)
    | (rw [k0_part269_eq_skeleton]; unfold k0_part269_skel; try dsimp only)
    | (rw [k0_part270_eq_skeleton]; unfold k0_part270_skel; try dsimp only)
    | (rw [k0_part271_eq_skeleton]; unfold k0_part271_skel; try dsimp only)
    | (rw [k0_part272_eq_skeleton]; unfold k0_part272_skel; try dsimp only)
    | (rw [k0_part273_eq_skeleton]; unfold k0_part273_skel; try dsimp only)
    | (rw [k0_part274_eq_skeleton]; unfold k0_part274_skel; try dsimp only)
    | (rw [k0_part275_eq_skeleton]; unfold k0_part275_skel; try dsimp only)
    | (rw [k0_part276_eq_skeleton]; unfold k0_part276_skel; try dsimp only)
    | (rw [k0_part277_eq_skeleton]; unfold k0_part277_skel; try dsimp only)
    | (rw [k0_part278_eq_skeleton]; unfold k0_part278_skel; try dsimp only)
    | (rw [k0_part279_eq_skeleton]; unfold k0_part279_skel; try dsimp only)
    | (rw [k0_part280_eq_skeleton]; unfold k0_part280_skel; try dsimp only)
    | (rw [k0_part281_eq_skeleton]; unfold k0_part281_skel; try dsimp only)
    | (rw [k0_part282_eq_skeleton]; unfold k0_part282_skel; try dsimp only)
    | (rw [k0_part283_eq_skeleton]; unfold k0_part283_skel; try dsimp only)
    | (rw [k0_part284_eq_skeleton]; unfold k0_part284_skel; try dsimp only)
    | (rw [k0_part285_eq_skeleton]; unfold k0_part285_skel; try dsimp only)
    | (rw [k0_part286_eq_skeleton]; unfold k0_part286_skel; try dsimp only)
    | (rw [k0_part287_eq_skeleton]; unfold k0_part287_skel; try dsimp only)
    | (rw [k0_part288_eq_skeleton]; unfold k0_part288_skel; try dsimp only)
    | (rw [k0_part289_eq_skeleton]; unfold k0_part289_skel; try dsimp only)
    | (rw [k0_part290_eq_skeleton]; unfold k0_part290_skel; try dsimp only)
    | (rw [k0_part291_eq_skeleton]; unfold k0_part291_skel; try dsimp only)
    | (rw [k0_part292_eq_skeleton]; unfold k0_part292_skel; try dsimp only)
    | (rw [k0_part293_eq_skeleton]; unfold k0_part293_skel; try dsimp only)
    | (rw [k0_part294_eq_skeleton]; unfold k0_part294_skel; try dsimp only)
    | (rw [k0_part295_eq_skeleton]; unfold k0_part295_skel; try dsimp only)
    | (rw [k0_part296_eq_skeleton]; unfold k0_part296_skel; try dsimp only)
    | (rw [k0_part297_eq_skeleton]; unfold k0_part297_skel; try dsimp only)
    | (rw [k0_part298_eq_skeleton]; unfold k0_part298_skel; try dsimp only)
    | (rw [k0_part299_eq_skeleton]; unfold k0_part299_skel; try dsimp only)
    | (rw [k0_part300_eq_skeleton]; unfold k0_part300_skel; try dsimp only)

theorem safe_part369 (v11 v70 v71 v72 v127 v180 v229 v278 v296 v298 v299 v300 v305 v309 v313 v359 v595 v610 v688 v692 v693 v706 v708 v734 v736 v786 v788 v1474 v1491 v1495 v1496 v1509 v1511 v1537 v1539 v1589 v1591 v2277 v2294 v2298 v2299 v2312 v2314 v2340 v2342 v2392 v2394 v3080 v3097 v3101 v3102 v3115 v3117 v3143 v3145 v3195 v3197 v3883 v3900 v3904 v3905 v3918 v3920 v3946 v3948 v3998 v4000 v4686 v4703 v4707 v4708 v4721 v4723 v4749 v4751 v4801 v4803 v5489 v5506 v5510 v5511 v5524 v5526 v5552 v5554 v5604 v5606 v6292 v6309 v6313 v6314 v6327 v6329 v6355 v6357 v6407 v6409 v7095 v7112 v7116 v7117 v7130 v7132 v7158 v7160 v7210 v7212 v7898 v7915 v7919 v7920 v7933 v7935 v7961 v7963 v8013 v8015 v8701 v8718 v8722 v8723 v8736 v8738 v8764 v8766 v8816 v8818 v9504 v9521 v9525 v9526 v9539 v9541 v9567 v9569 v9619 v9621 v10307 v10324 v10328 v10329 v10342 v10344 v10370 v10372 v10422 v10424 v11110 v11127 v11131 v11132 v11145 v11147 v11173 v11175 v11225 v11227 v11913 v11915 v11930 v11934 v11935 v11948 v11950 v11976 v11978 v12028 v12030 v12031 v12032 v12075 v12078) :
    Safe defs₀ Variants.none E (c : Thread nD τ) R (k0_part369 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v70 v71 v72 v127 v180 v229 v278 v296 v298 v299 v300 v305 v309 v313 v359 v595 v610 v688 v692 v693 v706 v708 v734 v736 v786 v788 v1474 v1491 v1495 v1496 v1509 v1511 v1537 v1539 v1589 v1591 v2277 v2294 v2298 v2299 v2312 v2314 v2340 v2342 v2392 v2394 v3080 v3097 v3101 v3102 v3115 v3117 v3143 v3145 v3195 v3197 v3883 v3900 v3904 v3905 v3918 v3920 v3946 v3948 v3998 v4000 v4686 v4703 v4707 v4708 v4721 v4723 v4749 v4751 v4801 v4803 v5489 v5506 v5510 v5511 v5524 v5526 v5552 v5554 v5604 v5606 v6292 v6309 v6313 v6314 v6327 v6329 v6355 v6357 v6407 v6409 v7095 v7112 v7116 v7117 v7130 v7132 v7158 v7160 v7210 v7212 v7898 v7915 v7919 v7920 v7933 v7935 v7961 v7963 v8013 v8015 v8701 v8718 v8722 v8723 v8736 v8738 v8764 v8766 v8816 v8818 v9504 v9521 v9525 v9526 v9539 v9541 v9567 v9569 v9619 v9621 v10307 v10324 v10328 v10329 v10342 v10344 v10370 v10372 v10422 v10424 v11110 v11127 v11131 v11132 v11145 v11147 v11173 v11175 v11225 v11227 v11913 v11915 v11930 v11934 v11935 v11948 v11950 v11976 v11978 v12028 v12030 v12031 v12032 v12075 v12078) := by
  rw [k0_part369_eq_skeleton]; unfold k0_part369_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part301_eq_skeleton]; unfold k0_part301_skel; try dsimp only)
    | (rw [k0_part302_eq_skeleton]; unfold k0_part302_skel; try dsimp only)
    | (rw [k0_part303_eq_skeleton]; unfold k0_part303_skel; try dsimp only)
    | (rw [k0_part304_eq_skeleton]; unfold k0_part304_skel; try dsimp only)
    | (rw [k0_part305_eq_skeleton]; unfold k0_part305_skel; try dsimp only)
    | (rw [k0_part306_eq_skeleton]; unfold k0_part306_skel; try dsimp only)
    | (rw [k0_part307_eq_skeleton]; unfold k0_part307_skel; try dsimp only)
    | (rw [k0_part308_eq_skeleton]; unfold k0_part308_skel; try dsimp only)
    | (rw [k0_part309_eq_skeleton]; unfold k0_part309_skel; try dsimp only)
    | (rw [k0_part310_eq_skeleton]; unfold k0_part310_skel; try dsimp only)
    | (rw [k0_part311_eq_skeleton]; unfold k0_part311_skel; try dsimp only)
    | (rw [k0_part312_eq_skeleton]; unfold k0_part312_skel; try dsimp only)
    | (rw [k0_part313_eq_skeleton]; unfold k0_part313_skel; try dsimp only)
    | (rw [k0_part314_eq_skeleton]; unfold k0_part314_skel; try dsimp only)
    | (rw [k0_part315_eq_skeleton]; unfold k0_part315_skel; try dsimp only)
    | (rw [k0_part316_eq_skeleton]; unfold k0_part316_skel; try dsimp only)
    | (rw [k0_part317_eq_skeleton]; unfold k0_part317_skel; try dsimp only)
    | (rw [k0_part318_eq_skeleton]; unfold k0_part318_skel; try dsimp only)
    | (rw [k0_part319_eq_skeleton]; unfold k0_part319_skel; try dsimp only)
    | (rw [k0_part320_eq_skeleton]; unfold k0_part320_skel; try dsimp only)
    | (rw [k0_part321_eq_skeleton]; unfold k0_part321_skel; try dsimp only)
    | (rw [k0_part322_eq_skeleton]; unfold k0_part322_skel; try dsimp only)
    | (rw [k0_part323_eq_skeleton]; unfold k0_part323_skel; try dsimp only)
    | (rw [k0_part324_eq_skeleton]; unfold k0_part324_skel; try dsimp only)
    | (rw [k0_part325_eq_skeleton]; unfold k0_part325_skel; try dsimp only)
    | (rw [k0_part326_eq_skeleton]; unfold k0_part326_skel; try dsimp only)
    | (rw [k0_part327_eq_skeleton]; unfold k0_part327_skel; try dsimp only)
    | (rw [k0_part328_eq_skeleton]; unfold k0_part328_skel; try dsimp only)
    | (rw [k0_part329_eq_skeleton]; unfold k0_part329_skel; try dsimp only)
    | (rw [k0_part330_eq_skeleton]; unfold k0_part330_skel; try dsimp only)
    | (rw [k0_part331_eq_skeleton]; unfold k0_part331_skel; try dsimp only)
    | (rw [k0_part332_eq_skeleton]; unfold k0_part332_skel; try dsimp only)
    | (rw [k0_part333_eq_skeleton]; unfold k0_part333_skel; try dsimp only)
    | (rw [k0_part334_eq_skeleton]; unfold k0_part334_skel; try dsimp only)
    | (rw [k0_part335_eq_skeleton]; unfold k0_part335_skel; try dsimp only)
    | (rw [k0_part336_eq_skeleton]; unfold k0_part336_skel; try dsimp only)
    | (rw [k0_part337_eq_skeleton]; unfold k0_part337_skel; try dsimp only)
    | (rw [k0_part338_eq_skeleton]; unfold k0_part338_skel; try dsimp only)
    | (rw [k0_part339_eq_skeleton]; unfold k0_part339_skel; try dsimp only)
    | (rw [k0_part340_eq_skeleton]; unfold k0_part340_skel; try dsimp only)
    | (rw [k0_part341_eq_skeleton]; unfold k0_part341_skel; try dsimp only)
    | (rw [k0_part342_eq_skeleton]; unfold k0_part342_skel; try dsimp only)
    | (rw [k0_part343_eq_skeleton]; unfold k0_part343_skel; try dsimp only)
    | (rw [k0_part344_eq_skeleton]; unfold k0_part344_skel; try dsimp only)
    | (rw [k0_part345_eq_skeleton]; unfold k0_part345_skel; try dsimp only)
    | (rw [k0_part346_eq_skeleton]; unfold k0_part346_skel; try dsimp only)
    | (rw [k0_part347_eq_skeleton]; unfold k0_part347_skel; try dsimp only)
    | (rw [k0_part348_eq_skeleton]; unfold k0_part348_skel; try dsimp only)
    | (rw [k0_part349_eq_skeleton]; unfold k0_part349_skel; try dsimp only)
    | (rw [k0_part350_eq_skeleton]; unfold k0_part350_skel; try dsimp only)
    | (rw [k0_part351_eq_skeleton]; unfold k0_part351_skel; try dsimp only)
    | (rw [k0_part352_eq_skeleton]; unfold k0_part352_skel; try dsimp only)
    | (rw [k0_part353_eq_skeleton]; unfold k0_part353_skel; try dsimp only)
    | (rw [k0_part354_eq_skeleton]; unfold k0_part354_skel; try dsimp only)
    | (rw [k0_part355_eq_skeleton]; unfold k0_part355_skel; try dsimp only)
    | (rw [k0_part356_eq_skeleton]; unfold k0_part356_skel; try dsimp only)
    | (rw [k0_part357_eq_skeleton]; unfold k0_part357_skel; try dsimp only)
    | (rw [k0_part358_eq_skeleton]; unfold k0_part358_skel; try dsimp only)
    | (rw [k0_part359_eq_skeleton]; unfold k0_part359_skel; try dsimp only)
    | (rw [k0_part360_eq_skeleton]; unfold k0_part360_skel; try dsimp only)

theorem safe_body :
    Safe defs₀ Variants.none E (c : Thread nD τ) R (cc0_mixer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [cc0_mixer_eq_skeleton]; unfold cc0_mixer_skel
  dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part361_eq_skeleton]; unfold k0_part361_skel; try dsimp only)
    | (rw [k0_part362_eq_skeleton]; unfold k0_part362_skel; try dsimp only)
    | (rw [k0_part363_eq_skeleton]; unfold k0_part363_skel; try dsimp only)
    | exact safe_part364 i h1 h2 h3 h4 h5 h6 h7 h8 h9 h10 h11 h12 h13 h14 h15 h16 h17 h18 h19 h20 h21 h22 h23
    | exact safe_part365 i h1 h2 h3 h4 h5 h6 h7 h8 h9 h10 h11 h12 h13 h14 h15 h16 h17 h18 h19 h20 h21 h22 h23 _ _ _ _ _ _ _ _ _ _ _ _
    | exact safe_part366 i h1 h2 h3 h4 h5 h6 h7 h8 h9 h10 h11 h12 h13 h14 h15 h16 h17 h18 h19 h20 h21 h22 h23 _ _ _ _ _ _ _ _ _ _ _ _ _ _
    | exact safe_part367 i h1 h2 h3 h4 h5 h6 h7 h8 h9 h10 h11 h12 h13 h14 h15 h16 h17 h18 h19 h20 h21 h22 h23 _ _ _ _ _ _ _ _ _ _ _ _
    | exact safe_part368 i h1 h2 h3 h4 h5 h6 h7 h8 h9 h10 h11 h12 h13 h14 h15 h16 h17 h18 h19 h20 h21 h22 h23 _ _ _ _ _ _ _ _ _ _ _ _ _
    | exact safe_part369 i h1 h2 h3 h4 h5 h6 h7 h8 h9 h10 h11 h12 h13 h14 h15 h16 h17 h18 h19 h20 h21 h22 h23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

end Cert.MixerIdeal.Gen
end
-- ==== Proof.MixerIdealFrame.lean ====
/- The mixer's frame: at any values and from any memory whose counters are zero, every weakly fair run of the program
   ends, with its arguments as they were and every counter at zero.

   At a grid point the body holds its input blocks, which it gives back as they were, and its outputs and the six
   buffers it keeps for itself, each at some contents; the body is safe over these (`safe_body`). The contents of the
   outputs are not followed. -/
module

public import proofs.«01_k».proof.Proof.MixerIdealBody
public import proofs.«01_k».proof.Proof.Gen.MixerIdeal.Frame
public import Idealize.ShloMosaic.Lib.Claim

@[expose] public section

set_option maxRecDepth 16384

noncomputable section

namespace Cert.MixerIdeal.Gen

open Idealize.ShloMosaic Idealize.ShloMosaic.TcCoe Idealize.ShloMosaic.Tactic Cert.Safety
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The windows whose contents are not followed: the six outputs. -/
def forgets0 : Fin 17 → Bool := fun w => 11 ≤ w.val

/-- What the pipeline holds: the arrays as the call finds them, each input's buffer at its block after the body, the
    outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd (show _ + 17 < 17 from h) (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_4 (t : Fin cfg0.N) : cfg0.idle 4 (grid0.coords t) = false := rfl
theorem live0_5 (t : Fin cfg0.N) : cfg0.idle 5 (grid0.coords t) = false := rfl
theorem live0_6 (t : Fin cfg0.N) : cfg0.idle 6 (grid0.coords t) = false := rfl
theorem live0_7 (t : Fin cfg0.N) : cfg0.idle 7 (grid0.coords t) = false := rfl
theorem live0_8 (t : Fin cfg0.N) : cfg0.idle 8 (grid0.coords t) = false := rfl
theorem live0_9 (t : Fin cfg0.N) : cfg0.idle 9 (grid0.coords t) = false := rfl
theorem live0_10 (t : Fin cfg0.N) : cfg0.idle 10 (grid0.coords t) = false := rfl

theorem leaves0_0 (c : Dev nD) (t : Fin cfg0.N) : ((dats m 0 c).leavesExact 0 t : sProp (MT nD τ sig Unit (Elt F) ℕ (UR sig nD τ) ℕ))
    = owns (c : Thread nD τ) (win0_0.stage (cfg0.slots t 0)) fullShare (iblk m c 0 t) := by
  unfold Dat.leavesExact; rw [live0_0 t, after0_0]
theorem leaves0_1 (c : Dev nD) (t : Fin cfg0.N) : ((dats m 0 c).leavesExact 1 t : sProp (MT nD τ sig Unit (Elt F) ℕ (UR sig nD τ) ℕ))
    = owns (c : Thread nD τ) (win0_1.stage (cfg0.slots t 1)) fullShare (iblk m c 1 t) := by
  unfold Dat.leavesExact; rw [live0_1 t, after0_1]
theorem leaves0_2 (c : Dev nD) (t : Fin cfg0.N) : ((dats m 0 c).leavesExact 2 t : sProp (MT nD τ sig Unit (Elt F) ℕ (UR sig nD τ) ℕ))
    = owns (c : Thread nD τ) (win0_2.stage (cfg0.slots t 2)) fullShare (iblk m c 2 t) := by
  unfold Dat.leavesExact; rw [live0_2 t, after0_2]
theorem leaves0_3 (c : Dev nD) (t : Fin cfg0.N) : ((dats m 0 c).leavesExact 3 t : sProp (MT nD τ sig Unit (Elt F) ℕ (UR sig nD τ) ℕ))
    = owns (c : Thread nD τ) (win0_3.stage (cfg0.slots t 3)) fullShare (iblk m c 3 t) := by
  unfold Dat.leavesExact; rw [live0_3 t, after0_3]
theorem leaves0_4 (c : Dev nD) (t : Fin cfg0.N) : ((dats m 0 c).leavesExact 4 t : sProp (MT nD τ sig Unit (Elt F) ℕ (UR sig nD τ) ℕ))
    = owns (c : Thread nD τ) (win0_4.stage (cfg0.slots t 4)) fullShare (iblk m c 4 t) := by
  unfold Dat.leavesExact; rw [live0_4 t, after0_4]
theorem leaves0_5 (c : Dev nD) (t : Fin cfg0.N) : ((dats m 0 c).leavesExact 5 t : sProp (MT nD τ sig Unit (Elt F) ℕ (UR sig nD τ) ℕ))
    = owns (c : Thread nD τ) (win0_5.stage (cfg0.slots t 5)) fullShare (iblk m c 5 t) := by
  unfold Dat.leavesExact; rw [live0_5 t, after0_5]
theorem leaves0_6 (c : Dev nD) (t : Fin cfg0.N) : ((dats m 0 c).leavesExact 6 t : sProp (MT nD τ sig Unit (Elt F) ℕ (UR sig nD τ) ℕ))
    = owns (c : Thread nD τ) (win0_6.stage (cfg0.slots t 6)) fullShare (iblk m c 6 t) := by
  unfold Dat.leavesExact; rw [live0_6 t, after0_6]
theorem leaves0_7 (c : Dev nD) (t : Fin cfg0.N) : ((dats m 0 c).leavesExact 7 t : sProp (MT nD τ sig Unit (Elt F) ℕ (UR sig nD τ) ℕ))
    = owns (c : Thread nD τ) (win0_7.stage (cfg0.slots t 7)) fullShare (iblk m c 7 t) := by
  unfold Dat.leavesExact; rw [live0_7 t, after0_7]
theorem leaves0_8 (c : Dev nD) (t : Fin cfg0.N) : ((dats m 0 c).leavesExact 8 t : sProp (MT nD τ sig Unit (Elt F) ℕ (UR sig nD τ) ℕ))
    = owns (c : Thread nD τ) (win0_8.stage (cfg0.slots t 8)) fullShare (iblk m c 8 t) := by
  unfold Dat.leavesExact; rw [live0_8 t, after0_8]
theorem leaves0_9 (c : Dev nD) (t : Fin cfg0.N) : ((dats m 0 c).leavesExact 9 t : sProp (MT nD τ sig Unit (Elt F) ℕ (UR sig nD τ) ℕ))
    = owns (c : Thread nD τ) (win0_9.stage (cfg0.slots t 9)) fullShare (iblk m c 9 t) := by
  unfold Dat.leavesExact; rw [live0_9 t, after0_9]
theorem leaves0_10 (c : Dev nD) (t : Fin cfg0.N) : ((dats m 0 c).leavesExact 10 t : sProp (MT nD τ sig Unit (Elt F) ℕ (UR sig nD τ) ℕ))
    = owns (c : Thread nD τ) (win0_10.stage (cfg0.slots t 10)) fullShare (iblk m c 10 t) := by
  unfold Dat.leavesExact; rw [live0_10 t, after0_10]

/-- The call's own buffers, as memrefs owned at some contents. -/
theorem PhiA0_eq (c : Dev nD) : (Pipeline.ΦA spec0 c : sProp (MT nD τ sig Unit (Elt F) ℕ (UR sig nD τ) ℕ))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d))

/-- What it holds throughout. -/
def held (c : Dev nD) (t : Fin cfg0.N) : sProp (MT nD τ sig Unit (Elt F) ℕ (UR sig nD τ) ℕ) :=
  iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r))
    ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d))

/-- The body, over what it holds. -/
theorem held_safe (c : Dev nD) (t : Fin cfg0.N) :
    Safe defs₀ Variants.none Set.univ (c : Thread nD τ) (held m c t) (bodyAt0 (F := F) t) := by
  unfold bodyAt0
  have hb : Safe defs₀ Variants.none Set.univ (c : Thread nD τ) (held m c t) (bodyAt0 (F := F) t) := by
    unfold held bodyAt0
    exact safe_body (grid0.coords t)
      (Rd.right (Rd.right (Rd.left Rd.owns)))
      (Rd.right (Rd.right (Rd.right (Rd.left Rd.owns))))
      (Rd.right (Rd.right (Rd.right (Rd.right (Rd.left Rd.owns)))))
      (Rd.right (Rd.right (Rd.right (Rd.right (Rd.right (Rd.left Rd.owns))))))
      (Rd.right (Rd.right (Rd.right (Rd.right (Rd.right (Rd.right (Rd.left Rd.owns)))))))
      (Rd.right (Rd.right (Rd.right (Rd.right (Rd.right (Rd.right (Rd.right (Rd.left Rd.owns))))))))
      (Rd.right (Rd.right (Rd.right (Rd.right (Rd.right (Rd.right (Rd.right (Rd.right (Rd.left Rd.owns)))))))))
      (Rd.right (Rd.right (Rd.right (Rd.right (Rd.right (Rd.right (Rd.right (Rd.right (Rd.right (Rd.left Rd.owns))))))))))
      (Rd.right (Rd.right (Rd.right (Rd.right (Rd.right (Rd.right (Rd.right (Rd.right (Rd.right (Rd.right (Rd.left Rd.owns)))))))))))
      (Rd.right (Rd.right (Rd.right (Rd.right (Rd.right (Rd.right (Rd.right (Rd.right (Rd.right (Rd.right (Rd.right (Rd.left Rd.owns))))))))))))
      (Rd.right (Rd.right (Rd.right (Rd.right (Rd.right (Rd.right (Rd.right (Rd.right (Rd.right (Rd.right (Rd.right (Rd.right (Rd.left Rd.owns)))))))))))))
      (Wr.right (Wr.right (Wr.right (Wr.right (Wr.right (Wr.right (Wr.right (Wr.right (Wr.right (Wr.right (Wr.right (Wr.right (Wr.right (Wr.left Wr.owns))))))))))))))
      (Wr.right (Wr.right (Wr.right (Wr.right (Wr.right (Wr.right (Wr.right (Wr.right (Wr.right (Wr.right (Wr.right (Wr.right (Wr.right (Wr.right (Wr.left Wr.owns)))))))))))))))
      (Wr.right (Wr.right (Wr.right (Wr.right (Wr.right (Wr.right (Wr.right (Wr.right (Wr.right (Wr.right (Wr.right (Wr.right (Wr.right (Wr.right (Wr.right (Wr.left Wr.owns))))))))))))))))
      (Wr.right (Wr.right (Wr.right (Wr.right (Wr.right (Wr.right (Wr.right (Wr.right (Wr.right (Wr.right (Wr.right (Wr.right (Wr.right (Wr.right (Wr.right (Wr.right (Wr.left Wr.owns)))))))))))))))))
      (Wr.right (Wr.right (Wr.right (Wr.right (Wr.right (Wr.right (Wr.right (Wr.right (Wr.right (Wr.right (Wr.right (Wr.right (Wr.right (Wr.right (Wr.right (Wr.right (Wr.right (Wr.left Wr.owns))))))))))))))))))
      (Wr.right (Wr.right (Wr.right (Wr.right (Wr.right (Wr.right (Wr.right (Wr.right (Wr.right (Wr.right (Wr.right (Wr.right (Wr.right (Wr.right (Wr.right (Wr.right (Wr.right (Wr.right Wr.owns))))))))))))))))))
      (Wr.left (Wr.left (Wr.left Wr.owns)))
      (Wr.left (Wr.left (Wr.right (Wr.left Wr.owns))))
      (Wr.left (Wr.left (Wr.right (Wr.right (Wr.left Wr.owns)))))
      (Wr.left (Wr.left (Wr.right (Wr.right (Wr.right (Wr.left Wr.owns))))))
      (Wr.left (Wr.left (Wr.right (Wr.right (Wr.right (Wr.right (Wr.left Wr.owns)))))))
      (Wr.left (Wr.left (Wr.right (Wr.right (Wr.right (Wr.right (Wr.right Wr.owns)))))))
  exact hb

/-- The body at any point. -/
theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ held m c t := by
    unfold bodyPre held
    simp only [before0_0, before0_1, before0_2, before0_3, before0_4, before0_5, before0_6, before0_7, before0_8, before0_9, before0_10]
    rw [show (dats m 0 c).Φ t.castSucc = Pipeline.ΦA spec0 c from rfl, PhiA0_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H
  have hpost : held m c t ⊢ bodyPost m c t := by
    unfold bodyPost held
    rw [leaves0_0, leaves0_1, leaves0_2, leaves0_3, leaves0_4, leaves0_5, leaves0_6, leaves0_7, leaves0_8, leaves0_9, leaves0_10]
    rw [show (dats m 0 c).Φ t.succ = Pipeline.ΦA spec0 c from rfl, PhiA0_eq,
      show (dats m 0 c).owesAt () t.succ = (dats m 0 c).owesAt () t.castSucc from rfl]
  exact hpre.trans ((held_safe m c t).trans ((wp _ _ _ _).mono fun _ => hpost))

theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the program, its counters at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, from the state of the pipeline's arrays and the rest. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 6 rfl).trans ((hA c 6).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 2 rfl).trans ((hA c 2).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c))⟩) h

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of_forget m ρ (fun c => (dats m 0 c).toRForget forgets0) (A_eq m)
      ((θ_run defs _ _).mono (fun _ h => h.1) (run_main_quiescent m ρ)))
    ((θ_run defs _ _).mono (fun _ h => h.2) (run_main_quiescent m ρ))

end Cert.MixerIdeal.Gen

end
-- ==== Proof.Track.lean ====
/- Following what some buffers hold through a straight-line program.

   `Run R t p Q` says: holding `R t`, the program `p` runs, and ends with a value `x` and holding `R t'` for some `t'`
   with `Q x t'`. The state `t` lists the contents that are followed; whatever else `R t` holds comes back at any
   contents, by `Safe`. -/
module

public import proofs.«01_k».proof.Proof.Safe
public import Idealize.ShloMosaic.Lib.VecWindow

@[expose] public section

noncomputable section

namespace Cert.Safety

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels} [Preorder Lvl]

variable {sp : Space} {s s' : Shape} {e : EltTy} {T : Type}

/-- `R` lends `m`'s elements, which hold `X`, for reading. -/
def RdAs (c : Thread nD τ) (R : sProp (MT nD τ sig Ix Val Name U Lvl)) (m : Memref sig c.2.kind sp s e) (X : s.Idx → Val e) : Prop :=
  R ⊢ iprop(∃ (q : PosShare TreeShare) (S : Finset (Idx (m.view.loc c))) (f : Buf Val (m.view.loc c)),
    ⌜m.view.set ⊆ S ∧ m.view.read Val f = X⌝ ∗ ((m.view.loc c ↦[S]{q} f) : sProp (MT nD τ sig Ix Val Name U Lvl)) ∗ ((m.view.loc c ↦[S]{q} f) -∗ R))

/-- `R` lends `m`'s elements, which hold `X`, for writing; once they hold `Y` it has become `R' Y`. -/
def WrAs (c : Thread nD τ) (R : sProp (MT nD τ sig Ix Val Name U Lvl)) (m : Memref sig c.2.kind sp s e) (X : s.Idx → Val e)
    (R' : (s.Idx → Val e) → sProp (MT nD τ sig Ix Val Name U Lvl)) : Prop :=
  R ⊢ iprop(∃ (S : Finset (Idx (m.view.loc c))) (f : Buf Val (m.view.loc c)),
    ⌜m.view.set ⊆ S ∧ m.view.read Val f = X⌝ ∗ ((m.view.loc c ↦[S]{fullShare} f) : sProp (MT nD τ sig Ix Val Name U Lvl))
      ∗ (∀ f', (m.view.loc c ↦[S]{fullShare} f') -∗ R' (m.view.read Val f')))

variable {c : Thread nD τ} {R P : sProp (MT nD τ sig Ix Val Name U Lvl)} {R' : (s.Idx → Val e) → sProp (MT nD τ sig Ix Val Name U Lvl)}

theorem RdAs.owns {m : Memref sig c.2.kind sp s e} {q : PosShare TreeShare} {X : s.Idx → Val e} :
    RdAs (Ix := Ix) (Name := Name) (U := U) (Lvl := Lvl) c (owns c m q X : sProp (MT nD τ sig Ix Val Name U Lvl)) m X := by
  unfold RdAs Idealize.ShloMosaic.owns
  iintro ⟨%f, %hf, H⟩
  iexists q, m.view.set, f
  isplitr; · ipureintro; exact ⟨Finset.Subset.refl _, hf⟩
  isplitl [H]; · iexact H
  iintro H
  iexists f
  isplitr; · ipureintro; exact hf
  iexact H

theorem WrAs.owns {m : Memref sig c.2.kind sp s e} {X : s.Idx → Val e} :
    WrAs (Ix := Ix) (Name := Name) (U := U) (Lvl := Lvl) c (owns c m fullShare X : sProp (MT nD τ sig Ix Val Name U Lvl)) m X
      (fun Y => Idealize.ShloMosaic.owns c m fullShare Y) := by
  unfold WrAs Idealize.ShloMosaic.owns
  iintro ⟨%f, %hf, H⟩
  iexists m.view.set, f
  isplitr; · ipureintro; exact ⟨Finset.Subset.refl _, hf⟩
  isplitl [H]; · iexact H
  iintro %f' H
  iexists f'
  isplitr; · ipureintro; rfl
  iexact H

theorem RdAs.left {m : Memref sig c.2.kind sp s e} {X : s.Idx → Val e} (h : RdAs (Ix := Ix) (Name := Name) (U := U) (Lvl := Lvl) c R m X) :
    RdAs (Ix := Ix) (Name := Name) (U := U) (Lvl := Lvl) c (iprop(R ∗ P) : sProp (MT nD τ sig Ix Val Name U Lvl)) m X := by
  refine (sep_mono_left h).trans ?_
  iintro ⟨⟨%q, %S, %f, %hS, H, Hk⟩, HP⟩
  iexists q, S, f
  isplitr; · ipureintro; exact hS
  isplitl [H]; · iexact H
  iintro H
  isplitl [H Hk]
  · iapply Hk; iexact H
  iexact HP

theorem RdAs.right {m : Memref sig c.2.kind sp s e} {X : s.Idx → Val e} (h : RdAs (Ix := Ix) (Name := Name) (U := U) (Lvl := Lvl) c R m X) :
    RdAs (Ix := Ix) (Name := Name) (U := U) (Lvl := Lvl) c (iprop(P ∗ R) : sProp (MT nD τ sig Ix Val Name U Lvl)) m X := by
  refine (sep_mono_right h).trans ?_
  iintro ⟨HP, ⟨%q, %S, %f, %hS, H, Hk⟩⟩
  iexists q, S, f
  isplitr; · ipureintro; exact hS
  isplitl [H]; · iexact H
  iintro H
  isplitl [HP]
  · iexact HP
  iapply Hk; iexact H

theorem WrAs.left {m : Memref sig c.2.kind sp s e} {X : s.Idx → Val e} (h : WrAs (Ix := Ix) (Name := Name) (U := U) (Lvl := Lvl) c R m X R') :
    WrAs (Ix := Ix) (Name := Name) (U := U) (Lvl := Lvl) c (iprop(R ∗ P) : sProp (MT nD τ sig Ix Val Name U Lvl)) m X (fun Y => iprop(R' Y ∗ P)) := by
  refine (sep_mono_left h).trans ?_
  iintro ⟨⟨%S, %f, %hS, H, Hk⟩, HP⟩
  iexists S, f
  isplitr; · ipureintro; exact hS
  isplitl [H]; · iexact H
  iintro %f' H
  isplitl [H Hk]
  · iapply Hk; iexact H
  iexact HP

theorem WrAs.right {m : Memref sig c.2.kind sp s e} {X : s.Idx → Val e} (h : WrAs (Ix := Ix) (Name := Name) (U := U) (Lvl := Lvl) c R m X R') :
    WrAs (Ix := Ix) (Name := Name) (U := U) (Lvl := Lvl) c (iprop(P ∗ R) : sProp (MT nD τ sig Ix Val Name U Lvl)) m X (fun Y => iprop(P ∗ R' Y)) := by
  refine (sep_mono_right h).trans ?_
  iintro ⟨HP, ⟨%S, %f, %hS, H, Hk⟩⟩
  iexists S, f
  isplitr; · ipureintro; exact hS
  isplitl [H]; · iexact H
  iintro %f' H
  isplitl [HP]
  · iexact HP
  iapply Hk; iexact H

theorem RdAs.slice {m : Memref sig c.2.kind sp s e} {X : s.Idx → Val e} (h : RdAs (Ix := Ix) (Name := Name) (U := U) (Lvl := Lvl) c R m X) (r : Rect s) (hr : ∀ a, r.stride a = 1) :
    RdAs (Ix := Ix) (Name := Name) (U := U) (Lvl := Lvl) c R (m.slice r hr) (fun x => X (r.emb x)) := by
  unfold RdAs at h ⊢
  refine h.trans ?_
  iintro ⟨%q, %S, %f, %hS, H, Hk⟩
  iexists q, S, f
  isplitr
  · ipureintro
    refine ⟨(View.set_slice_subset _ _).trans hS.1, ?_⟩
    rw [← hS.2]; rfl
  isplitl [H]; · iexact H
  iexact Hk

theorem RdAs.squeeze {m : Memref sig c.2.kind sp s e} {X : s.Idx → Val e} (h : RdAs (Ix := Ix) (Name := Name) (U := U) (Lvl := Lvl) c R m X) (hs : s.Squeezes s') :
    RdAs (Ix := Ix) (Name := Name) (U := U) (Lvl := Lvl) c R (m.squeeze s' hs) (fun x => X (Shape.reshapeEquiv hs.numel_eq x)) := by
  unfold RdAs at h ⊢
  refine h.trans ?_
  iintro ⟨%q, %S, %f, %hS, H, Hk⟩
  iexists q, S, f
  isplitr
  · ipureintro
    refine ⟨(View.set_reshape _ _).subset.trans hS.1, ?_⟩
    rw [← hS.2]; rfl
  isplitl [H]; · iexact H
  iexact Hk

/-- What can be read as something can be read. -/
theorem RdAs.rd {m : Memref sig c.2.kind sp s e} {X : s.Idx → Val e} (h : RdAs (Ix := Ix) (Name := Name) (U := U) (Lvl := Lvl) c R m X) :
    Rd (Ix := Ix) (Name := Name) (U := U) (Lvl := Lvl) c R m := by
  unfold RdAs at h; unfold Rd
  refine h.trans ?_
  iintro ⟨%q, %S, %f, %hS, H, Hk⟩
  iexists q, S, f
  isplitr; · ipureintro; exact hS.1
  isplitl [H]; · iexact H
  iexact Hk

variable (defs : Defs nD τ sig Val Λ) (𝒱 : Variants) (E : Set Name)

/-- Holding `R t`, the program runs; it ends with a value and a state that satisfy `Q`. -/
def Run (c : Thread nD τ) (R : T → sProp (MT nD τ sig Ix Val Name U Lvl)) (t : T) {α : Type} (p : Prog (TpuEff nD τ sig Val Λ c.2) α)
    (Q : α → T → Prop) : Prop :=
  R t ⊢ wp frame (wpE (Ix := Ix) (Name := Name) (U := U) (Lvl := Lvl) defs 𝒱 c none) E p (fun x => iprop(∃ t', ⌜Q x t'⌝ ∗ R t'))

variable {defs 𝒱 E} {α β : Type} {G : T → sProp (MT nD τ sig Ix Val Name U Lvl)} {t : T} {Q : α → T → Prop}

theorem Run.pure (x : α) (h : Q x t) : Run (Ix := Ix) (Name := Name) (U := U) (Lvl := Lvl) defs 𝒱 E c G t (Pure.pure x : Prog (TpuEff nD τ sig Val Λ c.2) α) Q := by
  have h1 : (G t) ⊢ iprop(∃ t', ⌜Q x t'⌝ ∗ G t') := by
    iintro H
    iexists t
    isplitr; · ipureintro; exact h
    iexact H
  unfold Run
  rw [wp_pure]
  exact h1.trans BI.fupd_intro

theorem Run.bind {p : Prog (TpuEff nD τ sig Val Λ c.2) β} {k : β → Prog (TpuEff nD τ sig Val Λ c.2) α}
    (hp : Run (Ix := Ix) (Name := Name) (U := U) (Lvl := Lvl) defs 𝒱 E c G t p
      (fun x t' => Run (Ix := Ix) (Name := Name) (U := U) (Lvl := Lvl) defs 𝒱 E c G t' (k x) Q)) :
    Run (Ix := Ix) (Name := Name) (U := U) (Lvl := Lvl) defs 𝒱 E c G t (p >>= k) Q := by
  unfold Run at hp ⊢
  rw [wp_bind]
  refine hp.trans ((wp _ _ _ p).mono fun x => ?_)
  exact (by
    iintro ⟨%t', %h, H⟩
    iapply h
    iexact H :
    iprop(∃ t', ⌜(G t' ⊢ wp frame (wpE (Ix := Ix) (Name := Name) (U := U) (Lvl := Lvl) defs 𝒱 c none) E (k x) (fun x => iprop(∃ t', ⌜Q x t'⌝ ∗ G t')))⌝ ∗ G t')
      ⊢ wp frame (wpE (Ix := Ix) (Name := Name) (U := U) (Lvl := Lvl) defs 𝒱 c none) E (k x) (fun x => iprop(∃ t', ⌜Q x t'⌝ ∗ G t')))

/-- A weaker claim about the end. -/
theorem Run.conseq {p : Prog (TpuEff nD τ sig Val Λ c.2) α} {Q' : α → T → Prop}
    (h : Run (Ix := Ix) (Name := Name) (U := U) (Lvl := Lvl) defs 𝒱 E c G t p Q') (hQ : ∀ x t', Q' x t' → Q x t') :
    Run (Ix := Ix) (Name := Name) (U := U) (Lvl := Lvl) defs 𝒱 E c G t p Q := by
  unfold Run at h ⊢
  refine h.trans ((wp _ _ _ p).mono fun x => ?_)
  exact (by
    iintro ⟨%t', %h', H⟩
    iexists t'
    isplitr; · ipureintro; exact hQ x t' h'
    iexact H :
    iprop(∃ t', ⌜Q' x t'⌝ ∗ G t') ⊢ iprop(∃ t', ⌜Q x t'⌝ ∗ G t'))

theorem Run.dite {C : Prop} [Decidable C] {p : C → Prog (TpuEff nD τ sig Val Λ c.2) α} {p' : ¬C → Prog (TpuEff nD τ sig Val Λ c.2) α}
    (hp : ∀ h, Run (Ix := Ix) (Name := Name) (U := U) (Lvl := Lvl) defs 𝒱 E c G t (p h) Q)
    (hp' : ∀ h, Run (Ix := Ix) (Name := Name) (U := U) (Lvl := Lvl) defs 𝒱 E c G t (p' h) Q) :
    Run (Ix := Ix) (Name := Name) (U := U) (Lvl := Lvl) defs 𝒱 E c G t (if h : C then p h else p' h) Q := by
  by_cases h : C
  · rw [dif_pos h]; exact hp h
  · rw [dif_neg h]; exact hp' h

/-- A program that is safe leaves the state as it was. -/
theorem Run.safe {p : Prog (TpuEff nD τ sig Val Λ c.2) α} (hp : Safe (Ix := Ix) (Name := Name) (U := U) (Lvl := Lvl) defs 𝒱 E c (G t) p)
    (h : ∀ x, Q x t) : Run (Ix := Ix) (Name := Name) (U := U) (Lvl := Lvl) defs 𝒱 E c G t p Q := by
  unfold Safe at hp; unfold Run
  have h1 : ∀ x, (G t) ⊢ iprop(∃ t', ⌜Q x t'⌝ ∗ G t') := fun x => by
    iintro H
    iexists t
    isplitr; · ipureintro; exact h x
    iexact H
  exact hp.trans ((wp _ _ _ p).mono fun x => h1 x)

theorem Run.load {cs : CoreSpace} {m : Memref sig c.2.kind cs s e} {r : LoadRect s} {hl : m.view.LoadsAt r} {X : s.Idx → Val e}
    {Q : (r.shape.Idx → Val e) → T → Prop}
    (h : RdAs (Ix := Ix) (Name := Name) (U := U) (Lvl := Lvl) c (G t) m X) (hQ : Q (fun x => X (r.idx x)) t) :
    Run (Ix := Ix) (Name := Name) (U := U) (Lvl := Lvl) defs 𝒱 E c G t (Prog.lift (.load m r hl) : Prog (TpuEff nD τ sig Val Λ c.2) _) Q := by
  unfold RdAs at h; unfold Run
  refine h.trans ?_
  iintro ⟨%q, %S, %f, %hS, H, Hk⟩
  iapply (wp_load 𝒱 c none E ((View.setOn_subset_set _ _).trans hS.1)) $$ [H]
  · iexact H
  iintro H
  rw [wp_ret]
  iapply BI.fupd_intro
  iexists t
  isplitr
  · ipureintro
    have : m.view.readAt Val r f = fun x => X (r.idx x) := by rw [← hS.2]; rfl
    rw [this]; exact hQ
  iapply Hk
  iexact H

/-- A store through a rectangle of unit strides puts the payload there. -/
theorem Run.store {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {X : s.Idx → Val e} {up : (s.Idx → Val e) → T} {Q : PUnit → T → Prop}
    (h : WrAs (Ix := Ix) (Name := Name) (U := U) (Lvl := Lvl) c (G t) m X (fun Y => G (up Y)))
    (hQ : Q ⟨⟩ (up (VecWindow.put X off size w))) :
    Run (Ix := Ix) (Name := Name) (U := U) (Lvl := Lvl) defs 𝒱 E c G t (Prog.lift (.store m (Rect.unit off size inb) w Finset.univ hx hm) : Prog (TpuEff nD τ sig Val Λ c.2) _) Q := by
  unfold WrAs at h; unfold Run
  refine h.trans ?_
  iintro ⟨%S, %f, %hS, H, Hk⟩
  iapply (wp_store 𝒱 c none E (((View.setOn_subset_set _ _).trans (View.set_slice_subset _ _)).trans hS.1)) $$ [H]
  · iexact H
  iintro H
  rw [wp_ret]
  iapply BI.fupd_intro
  iexists (up (VecWindow.put X off size w))
  isplitr; · ipureintro; exact hQ
  have hr : m.view.read Val ((m.access (Rect.unit off size inb)).write Val f w Finset.univ) = VecWindow.put X off size w := by
    have := View.read_writes_cons_put (Val := Val) m.view f inb w [] rfl
    rw [View.writes_nil, hS.2] at this
    exact this
  rw [← hr]
  iapply Hk
  iexact H

end Cert.Safety

end
-- ==== Proof.MixerIdealSafe.lean ====
/- The parts of the mixer's body that the retention half and the four casts do not go through are safe. -/
module

public import proofs.«01_k».proof.Proof.Track
public import proofs.«01_k».proof.Proof.MixerIdealBody

@[expose] public section

set_option maxRecDepth 65536
set_option maxHeartbeats 4000000

noncomputable section

namespace Cert.MixerIdeal.Gen

open Idealize.ShloMosaic Idealize.ShloMosaic.TcCoe Cert.Safety
open Idealize.SL Idealize.SL.RA Idealize.SL.BI Idealize.SL.Sem
open Idealize.ShloMosaic.VecWindow (put)

section safe
variable {F : FTy → Type} [FloatOps F] [Named F]
variable {c : Dev nD} {R : sProp (MT nD τ sig Unit (Elt F) ℕ (UR sig nD τ) ℕ)} {E : Set ℕ} (i : grid0.Coords)
variable {arg1 : Memref sig .tc .vmem S512x2048 .f32} {harg1 : arg1.IsWhole}
variable {arg2 : Memref sig .tc .vmem S1x2048 .f32} {harg2 : arg2.IsWhole}
variable {arg3 : Memref sig .tc .vmem S512x256 .f32} {harg3 : arg3.IsWhole}
variable {arg4 : Memref sig .tc .vmem S1x256 .f32} {harg4 : arg4.IsWhole}
variable {arg5 : Memref sig .tc .vmem S1x256 .f32} {harg5 : arg5.IsWhole}
variable {arg6 : Memref sig .tc .vmem S1x256 .f32} {harg6 : arg6.IsWhole}
variable {arg7 : Memref sig .tc .vmem S1x8x2048x256 .bf16} {harg7 : arg7.IsWhole}
variable {arg8 : Memref sig .tc .vmem S16x5632 .f32} {harg8 : arg8.IsWhole}
variable {arg9 : Memref sig .tc .vmem S16x5632 .f32} {harg9 : arg9.IsWhole}
variable {arg10 : Memref sig .tc .vmem S64x2048 .f32} {harg10 : arg10.IsWhole}
variable {arg11 : Memref sig .tc .vmem S16x2048 .f32} {harg11 : arg11.IsWhole}
variable {arg12 : Memref sig .tc .vmem S512x256 .bf16} {harg12 : arg12.IsWhole}
variable {arg13 : Memref sig .tc .vmem S512x256 .bf16} {harg13 : arg13.IsWhole}
variable {arg14 : Memref sig .tc .vmem S16x5632 .bf16} {harg14 : arg14.IsWhole}
variable {arg15 : Memref sig .tc .vmem S16x5632 .bf16} {harg15 : arg15.IsWhole}
variable {arg16 : Memref sig .tc .vmem S64x2048 .bf16} {harg16 : arg16.IsWhole}
variable {arg17 : Memref sig .tc .vmem S16x2048 .bf16} {harg17 : arg17.IsWhole}
variable {arg18 : Memref sig .tc .vmem S512x2048 .bf16} {harg18 : arg18.IsWhole}
variable {arg19 : Memref sig .tc .vmem S2x8x512x256 .bf16} {harg19 : arg19.IsWhole}
variable {arg20 : Memref sig .tc .vmem S2x512x256 .f32} {harg20 : arg20.IsWhole}
variable {arg21 : Memref sig .tc .vmem S4x256x256 .f32} {harg21 : arg21.IsWhole}
variable {arg22 : Memref sig .tc .vmem S8x128x128 .f32} {harg22 : arg22.IsWhole}
variable {arg23 : Memref sig .tc .vmem S2x512x128 .f32} {harg23 : arg23.IsWhole}
variable (h1 : Rd (c : Thread nD τ) R arg1)
variable (h2 : Rd (c : Thread nD τ) R arg2)
variable (h3 : Rd (c : Thread nD τ) R arg3)
variable (h4 : Rd (c : Thread nD τ) R arg4)
variable (h5 : Rd (c : Thread nD τ) R arg5)
variable (h6 : Rd (c : Thread nD τ) R arg6)
variable (h7 : Rd (c : Thread nD τ) R arg7)
variable (h8 : Rd (c : Thread nD τ) R arg8)
variable (h9 : Rd (c : Thread nD τ) R arg9)
variable (h10 : Rd (c : Thread nD τ) R arg10)
variable (h11 : Rd (c : Thread nD τ) R arg11)
variable (h12 : Rd (c : Thread nD τ) R arg12)
variable (h13 : Wr (c : Thread nD τ) R arg13)
variable (h14 : Rd (c : Thread nD τ) R arg14)
variable (h15 : Rd (c : Thread nD τ) R arg15)
variable (h16 : Rd (c : Thread nD τ) R arg16)
variable (h17 : Rd (c : Thread nD τ) R arg17)
variable (h18 : Rd (c : Thread nD τ) R arg18)
variable (h19 : Rd (c : Thread nD τ) R arg19)
variable (h20 : Wr (c : Thread nD τ) R arg20)
variable (h21 : Rd (c : Thread nD τ) R arg21)
variable (h22 : Wr (c : Thread nD τ) R arg22)
variable (h23 : Wr (c : Thread nD τ) R arg23)
include h1 h2 h3 h4 h5 h6 h7 h8 h9 h10 h11 h12 h13 h14 h15 h16 h17 h18 h19 h20 h21 h22 h23

theorem safe1_part4 (v96 v97 v98) :
    Safe defs₀ Variants.none E (c : Thread nD τ) R (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v96 v97 v98) := by
  rw [k0_part4_eq_skeleton]; unfold k0_part4_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part5 (v128 v129 c8_i32_73 v131 v145) :
    Safe defs₀ Variants.none E (c : Thread nD τ) R (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v128 v129 c8_i32_73 v131 v145) := by
  rw [k0_part5_eq_skeleton]; unfold k0_part5_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part6 (v128 v129 c32_i32 v182 v189 v191 c0_i32_90) :
    Safe defs₀ Variants.none E (c : Thread nD τ) R (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v128 v129 c32_i32 v182 v189 v191 c0_i32_90) := by
  rw [k0_part6_eq_skeleton]; unfold k0_part6_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part7 (v128 v129 c16_i32_100 v231 v238 c0_i32_103) :
    Safe defs₀ Variants.none E (c : Thread nD τ) R (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v128 v129 c16_i32_100 v231 v238 c0_i32_103) := by
  rw [k0_part7_eq_skeleton]; unfold k0_part7_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part11 (v110 v297 v410 v413) :
    Safe defs₀ Variants.none E (c : Thread nD τ) R (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v110 v297 v410 v413) := by
  rw [k0_part11_eq_skeleton]; unfold k0_part11_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part12 (v110 v297 v301 v469 cst_166) :
    Safe defs₀ Variants.none E (c : Thread nD τ) R (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v110 v297 v301 v469 cst_166) := by
  rw [k0_part12_eq_skeleton]; unfold k0_part12_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part13 (v110 v301 v522 v524 v525 v526) :
    Safe defs₀ Variants.none E (c : Thread nD τ) R (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v110 v301 v522 v524 v525 v526) := by
  rw [k0_part13_eq_skeleton]; unfold k0_part13_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part14 (v70 v110 v301 v581 v582) :
    Safe defs₀ Variants.none E (c : Thread nD τ) R (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v70 v110 v301 v581 v582) := by
  rw [k0_part14_eq_skeleton]; unfold k0_part14_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part16 (v294 v295 v385 v657 v659 v660 v661 c0_i32_210) :
    Safe defs₀ Variants.none E (c : Thread nD τ) R (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v294 v295 v385 v657 v659 v660 v661 c0_i32_210) := by
  rw [k0_part16_eq_skeleton]; unfold k0_part16_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part17 (v385 v673 v679 v709) :
    Safe defs₀ Variants.none E (c : Thread nD τ) R (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v385 v673 v679 v709) := by
  rw [k0_part17_eq_skeleton]; unfold k0_part17_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part18 (v127 v385 v673 v679 v743 v747 v748 v755 v759 v760 v761 v762 v765) :
    Safe defs₀ Variants.none E (c : Thread nD τ) R (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v385 v673 v679 v743 v747 v748 v755 v759 v760 v761 v762 v765) := by
  rw [k0_part18_eq_skeleton]; unfold k0_part18_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part19 (v127 v789 v790 v791 v809 v810) :
    Safe defs₀ Variants.none E (c : Thread nD τ) R (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v789 v790 v791 v809 v810) := by
  rw [k0_part19_eq_skeleton]; unfold k0_part19_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part20 (v127 v789 v790 v833 v847) :
    Safe defs₀ Variants.none E (c : Thread nD τ) R (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v789 v790 v833 v847) := by
  rw [k0_part20_eq_skeleton]; unfold k0_part20_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part21 (v127 v789 v790 v875 v883 v884) :
    Safe defs₀ Variants.none E (c : Thread nD τ) R (k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v789 v790 v875 v883 v884) := by
  rw [k0_part21_eq_skeleton]; unfold k0_part21_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part22 (v127 v385 v673 v789 v790 v917 v920) :
    Safe defs₀ Variants.none E (c : Thread nD τ) R (k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v385 v673 v789 v790 v917 v920) := by
  rw [k0_part22_eq_skeleton]; unfold k0_part22_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part23 (v127 v960 v961 v962) :
    Safe defs₀ Variants.none E (c : Thread nD τ) R (k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v960 v961 v962) := by
  rw [k0_part23_eq_skeleton]; unfold k0_part23_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part24 (v127 v960 v961 v983 v999 v1001) :
    Safe defs₀ Variants.none E (c : Thread nD τ) R (k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v960 v961 v983 v999 v1001) := by
  rw [k0_part24_eq_skeleton]; unfold k0_part24_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part25 (v127 v960 v961 v1025 v1039) :
    Safe defs₀ Variants.none E (c : Thread nD τ) R (k0_part25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v960 v961 v1025 v1039) := by
  rw [k0_part25_eq_skeleton]; unfold k0_part25_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part26 (v127 v960 v961 v1067 v1073 v1075) :
    Safe defs₀ Variants.none E (c : Thread nD τ) R (k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v960 v961 v1067 v1073 v1075) := by
  rw [k0_part26_eq_skeleton]; unfold k0_part26_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part27 (v127 v385 v673 v960 v961 v1109 v1112) :
    Safe defs₀ Variants.none E (c : Thread nD τ) R (k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v385 v673 v960 v961 v1109 v1112) := by
  rw [k0_part27_eq_skeleton]; unfold k0_part27_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part28 (v127 v1131 v1132 v1154) :
    Safe defs₀ Variants.none E (c : Thread nD τ) R (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1131 v1132 v1154) := by
  rw [k0_part28_eq_skeleton]; unfold k0_part28_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part29 (v127 v1131 v1132 v1175 v1191 v1192) :
    Safe defs₀ Variants.none E (c : Thread nD τ) R (k0_part29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1131 v1132 v1175 v1191 v1192) := by
  rw [k0_part29_eq_skeleton]; unfold k0_part29_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part30 (v127 v1131 v1132 v1217 v1230) :
    Safe defs₀ Variants.none E (c : Thread nD τ) R (k0_part30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1131 v1132 v1217 v1230) := by
  rw [k0_part30_eq_skeleton]; unfold k0_part30_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part31 (v127 v385 v673 v1131 v1132 v1259 v1265 v1266) :
    Safe defs₀ Variants.none E (c : Thread nD τ) R (k0_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v385 v673 v1131 v1132 v1259 v1265 v1266) := by
  rw [k0_part31_eq_skeleton]; unfold k0_part31_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part32 (v127 v1302 v1303 v1304) :
    Safe defs₀ Variants.none E (c : Thread nD τ) R (k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1302 v1303 v1304) := by
  rw [k0_part32_eq_skeleton]; unfold k0_part32_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part33 (v127 v1302 v1303 v1346) :
    Safe defs₀ Variants.none E (c : Thread nD τ) R (k0_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1302 v1303 v1346) := by
  rw [k0_part33_eq_skeleton]; unfold k0_part33_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part34 (v127 v1302 v1303 v1367 v1383 c3_i32_512) :
    Safe defs₀ Variants.none E (c : Thread nD τ) R (k0_part34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1302 v1303 v1367 v1383 c3_i32_512) := by
  rw [k0_part34_eq_skeleton]; unfold k0_part34_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part35 (v127 v1302 v1303 v1409 v1421) :
    Safe defs₀ Variants.none E (c : Thread nD τ) R (k0_part35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1302 v1303 v1409 v1421) := by
  rw [k0_part35_eq_skeleton]; unfold k0_part35_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part36 (v127 v294 v295 v400 v959 v1130 v1301 v1302 v1303 v1451 v1454 v1457) :
    Safe defs₀ Variants.none E (c : Thread nD τ) R (k0_part36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v400 v959 v1130 v1301 v1302 v1303 v1451 v1454 v1457) := by
  rw [k0_part36_eq_skeleton]; unfold k0_part36_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part37 (v400 v1476 v1482 v1503 v1507 cst_558) :
    Safe defs₀ Variants.none E (c : Thread nD τ) R (k0_part37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v400 v1476 v1482 v1503 v1507 cst_558) := by
  rw [k0_part37_eq_skeleton]; unfold k0_part37_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part38 (v400 v1476 v1482 v1546 v1550 v1551 v1558 v1562 v1563) :
    Safe defs₀ Variants.none E (c : Thread nD τ) R (k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v400 v1476 v1482 v1546 v1550 v1551 v1558 v1562 v1563) := by
  rw [k0_part38_eq_skeleton]; unfold k0_part38_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part39 (v127 v1592 v1593 v1594 v1609) :
    Safe defs₀ Variants.none E (c : Thread nD τ) R (k0_part39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1592 v1593 v1594 v1609) := by
  rw [k0_part39_eq_skeleton]; unfold k0_part39_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part40 (v127 v1592 v1593 v1636 v1644 v1646) :
    Safe defs₀ Variants.none E (c : Thread nD τ) R (k0_part40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1592 v1593 v1636 v1644 v1646) := by
  rw [k0_part40_eq_skeleton]; unfold k0_part40_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part41 (v127 v1592 v1593 v1678 v1681) :
    Safe defs₀ Variants.none E (c : Thread nD τ) R (k0_part41 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1592 v1593 v1678 v1681) := by
  rw [k0_part41_eq_skeleton]; unfold k0_part41_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part42 (v127 v400 v1476 v1592 v1593 v1720 v1723) :
    Safe defs₀ Variants.none E (c : Thread nD τ) R (k0_part42 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v400 v1476 v1592 v1593 v1720 v1723) := by
  rw [k0_part42_eq_skeleton]; unfold k0_part42_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part43 (v127 v1763 v1764) :
    Safe defs₀ Variants.none E (c : Thread nD τ) R (k0_part43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1763 v1764) := by
  rw [k0_part43_eq_skeleton]; unfold k0_part43_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part44 (v127 v1763 v1764 v1786 v1800) :
    Safe defs₀ Variants.none E (c : Thread nD τ) R (k0_part44 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1763 v1764 v1786 v1800) := by
  rw [k0_part44_eq_skeleton]; unfold k0_part44_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part45 (v127 v1763 v1764 v1828 v1836 v1837) :
    Safe defs₀ Variants.none E (c : Thread nD τ) R (k0_part45 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1763 v1764 v1828 v1836 v1837) := by
  rw [k0_part45_eq_skeleton]; unfold k0_part45_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part46 (v127 v1763 v1764 v1870 v1873) :
    Safe defs₀ Variants.none E (c : Thread nD τ) R (k0_part46 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1763 v1764 v1870 v1873) := by
  rw [k0_part46_eq_skeleton]; unfold k0_part46_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part47 (v127 v400 v1476 v1763 v1764 v1912) :
    Safe defs₀ Variants.none E (c : Thread nD τ) R (k0_part47 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v400 v1476 v1763 v1764 v1912) := by
  rw [k0_part47_eq_skeleton]; unfold k0_part47_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part48 (v127 v1934 v1935 v1936 v1952 v1954) :
    Safe defs₀ Variants.none E (c : Thread nD τ) R (k0_part48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1934 v1935 v1936 v1952 v1954) := by
  rw [k0_part48_eq_skeleton]; unfold k0_part48_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part49 (v127 v1934 v1935 v1978 v1992) :
    Safe defs₀ Variants.none E (c : Thread nD τ) R (k0_part49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1934 v1935 v1978 v1992) := by
  rw [k0_part49_eq_skeleton]; unfold k0_part49_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part50 (v127 v1934 v1935 v2020 v2026 v2028) :
    Safe defs₀ Variants.none E (c : Thread nD τ) R (k0_part50 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v1934 v1935 v2020 v2026 v2028) := by
  rw [k0_part50_eq_skeleton]; unfold k0_part50_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part51 (v127 v400 v1476 v1934 v1935 v2062 v2065) :
    Safe defs₀ Variants.none E (c : Thread nD τ) R (k0_part51 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v400 v1476 v1934 v1935 v2062 v2065) := by
  rw [k0_part51_eq_skeleton]; unfold k0_part51_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part52 (v127 v2105 v2106 v2107) :
    Safe defs₀ Variants.none E (c : Thread nD τ) R (k0_part52 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2105 v2106 v2107) := by
  rw [k0_part52_eq_skeleton]; unfold k0_part52_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part53 (v127 v2105 v2106 v2128 v2144 v2145) :
    Safe defs₀ Variants.none E (c : Thread nD τ) R (k0_part53 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2105 v2106 v2128 v2144 v2145) := by
  rw [k0_part53_eq_skeleton]; unfold k0_part53_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part54 (v127 v2105 v2106 v2170 v2183) :
    Safe defs₀ Variants.none E (c : Thread nD τ) R (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2105 v2106 v2170 v2183) := by
  rw [k0_part54_eq_skeleton]; unfold k0_part54_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part55 (v127 v2105 v2106 v2212 v2218 v2219) :
    Safe defs₀ Variants.none E (c : Thread nD τ) R (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2105 v2106 v2212 v2218 v2219) := by
  rw [k0_part55_eq_skeleton]; unfold k0_part55_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part56 (v127 v294 v295 v415 v1762 v1933 v2104 v2105 v2106 v2254 v2257) :
    Safe defs₀ Variants.none E (c : Thread nD τ) R (k0_part56 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v415 v1762 v1933 v2104 v2105 v2106 v2254 v2257) := by
  rw [k0_part56_eq_skeleton]; unfold k0_part56_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part57 (v415 v2279 v2285 v2300 v2306) :
    Safe defs₀ Variants.none E (c : Thread nD τ) R (k0_part57 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v415 v2279 v2285 v2300 v2306) := by
  rw [k0_part57_eq_skeleton]; unfold k0_part57_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part58 (v415 v2279 v2285 v2349 v2353 v2354 v2355 v2361 v2362) :
    Safe defs₀ Variants.none E (c : Thread nD τ) R (k0_part58 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v415 v2279 v2285 v2349 v2353 v2354 v2355 v2361 v2362) := by
  rw [k0_part58_eq_skeleton]; unfold k0_part58_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part59 (v127 v2395 v2396 v2397 v2408) :
    Safe defs₀ Variants.none E (c : Thread nD τ) R (k0_part59 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2395 v2396 v2397 v2408) := by
  rw [k0_part59_eq_skeleton]; unfold k0_part59_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part60 (v127 v2395 v2396 v2439 v2442) :
    Safe defs₀ Variants.none E (c : Thread nD τ) R (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v2395 v2396 v2439 v2442) := by
  rw [k0_part60_eq_skeleton]; unfold k0_part60_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part301 (v127 v12031 v12032 v12075 v12078) :
    Safe defs₀ Variants.none E (c : Thread nD τ) R (k0_part301 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12031 v12032 v12075 v12078) := by
  rw [k0_part301_eq_skeleton]; unfold k0_part301_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part302 (v127 v12031 v12032 v12117 v12120) :
    Safe defs₀ Variants.none E (c : Thread nD τ) R (k0_part302 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12031 v12032 v12117 v12120) := by
  rw [k0_part302_eq_skeleton]; unfold k0_part302_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part303 (v127 v12031 v12032 v12159) :
    Safe defs₀ Variants.none E (c : Thread nD τ) R (k0_part303 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12031 v12032 v12159) := by
  rw [k0_part303_eq_skeleton]; unfold k0_part303_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part304 (v127 v595 v11915 v12180 v12196 v12198) :
    Safe defs₀ Variants.none E (c : Thread nD τ) R (k0_part304 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v595 v11915 v12180 v12196 v12198) := by
  rw [k0_part304_eq_skeleton]; unfold k0_part304_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part305 (v127 v12202 v12203 v12225 v12233 v12235) :
    Safe defs₀ Variants.none E (c : Thread nD τ) R (k0_part305 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12202 v12203 v12225 v12233 v12235) := by
  rw [k0_part305_eq_skeleton]; unfold k0_part305_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part306 (v127 v12202 v12203 v12267 v12270) :
    Safe defs₀ Variants.none E (c : Thread nD τ) R (k0_part306 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12202 v12203 v12267 v12270) := by
  rw [k0_part306_eq_skeleton]; unfold k0_part306_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part307 (v127 v12202 v12203 v12309 v12312) :
    Safe defs₀ Variants.none E (c : Thread nD τ) R (k0_part307 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12202 v12203 v12309 v12312) := by
  rw [k0_part307_eq_skeleton]; unfold k0_part307_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part308 (v127 v595 v11915 v12202 v12203 v12351) :
    Safe defs₀ Variants.none E (c : Thread nD τ) R (k0_part308 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v595 v11915 v12202 v12203 v12351) := by
  rw [k0_part308_eq_skeleton]; unfold k0_part308_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part309 (v127 v12373 v12374 v12375 v12389) :
    Safe defs₀ Variants.none E (c : Thread nD τ) R (k0_part309 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12373 v12374 v12375 v12389) := by
  rw [k0_part309_eq_skeleton]; unfold k0_part309_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part310 (v127 v12373 v12374 v12417 v12425 v12426) :
    Safe defs₀ Variants.none E (c : Thread nD τ) R (k0_part310 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12373 v12374 v12417 v12425 v12426) := by
  rw [k0_part310_eq_skeleton]; unfold k0_part310_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part311 (v127 v12373 v12374 v12459 v12462) :
    Safe defs₀ Variants.none E (c : Thread nD τ) R (k0_part311 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12373 v12374 v12459 v12462) := by
  rw [k0_part311_eq_skeleton]; unfold k0_part311_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part312 (v127 v11915 v12373 v12374 v12501) :
    Safe defs₀ Variants.none E (c : Thread nD τ) R (k0_part312 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v11915 v12373 v12374 v12501) := by
  rw [k0_part312_eq_skeleton]; unfold k0_part312_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part313 (v127 v595 v12544) :
    Safe defs₀ Variants.none E (c : Thread nD τ) R (k0_part313 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v595 v12544) := by
  rw [k0_part313_eq_skeleton]; unfold k0_part313_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part314 (v127 v12544 v12545 v12567 v12581) :
    Safe defs₀ Variants.none E (c : Thread nD τ) R (k0_part314 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12544 v12545 v12567 v12581) := by
  rw [k0_part314_eq_skeleton]; unfold k0_part314_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part315 (v127 v12544 v12545 v12609 v12615 v12617) :
    Safe defs₀ Variants.none E (c : Thread nD τ) R (k0_part315 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12544 v12545 v12609 v12615 v12617) := by
  rw [k0_part315_eq_skeleton]; unfold k0_part315_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part316 (v127 v12544 v12545 v12651 v12654) :
    Safe defs₀ Variants.none E (c : Thread nD τ) R (k0_part316 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12544 v12545 v12651 v12654) := by
  rw [k0_part316_eq_skeleton]; unfold k0_part316_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part317 (v127 v298 v299 v610 v12201 v12372 v12543 v12544 v12545 v12693) :
    Safe defs₀ Variants.none E (c : Thread nD τ) R (k0_part317 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v298 v299 v610 v12201 v12372 v12543 v12544 v12545 v12693) := by
  rw [k0_part317_eq_skeleton]; unfold k0_part317_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part318 (v610 v12718 v12724 v12739 v12740) :
    Safe defs₀ Variants.none E (c : Thread nD τ) R (k0_part318 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v610 v12718 v12724 v12739 v12740) := by
  rw [k0_part318_eq_skeleton]; unfold k0_part318_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part319 (v610 v12718 v12724 v12788 v12792 v12793 v12794 v12795 v12796) :
    Safe defs₀ Variants.none E (c : Thread nD τ) R (k0_part319 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v610 v12718 v12724 v12788 v12792 v12793 v12794 v12795 v12796) := by
  rw [k0_part319_eq_skeleton]; unfold k0_part319_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part320 (v127 v12834 v12835 v12836 v12839 v12842) :
    Safe defs₀ Variants.none E (c : Thread nD τ) R (k0_part320 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12834 v12835 v12836 v12839 v12842) := by
  rw [k0_part320_eq_skeleton]; unfold k0_part320_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part321 (v127 v12834 v12835 v12878 v12881) :
    Safe defs₀ Variants.none E (c : Thread nD τ) R (k0_part321 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12834 v12835 v12878 v12881) := by
  rw [k0_part321_eq_skeleton]; unfold k0_part321_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part322 (v127 v12834 v12835 v12920) :
    Safe defs₀ Variants.none E (c : Thread nD τ) R (k0_part322 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12834 v12835 v12920) := by
  rw [k0_part322_eq_skeleton]; unfold k0_part322_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part323 (v127 v12834 v12835 v12941 v12959 v12960) :
    Safe defs₀ Variants.none E (c : Thread nD τ) R (k0_part323 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v12834 v12835 v12941 v12959 v12960) := by
  rw [k0_part323_eq_skeleton]; unfold k0_part323_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part324 (v127 v610 v12718 v12983 v12997) :
    Safe defs₀ Variants.none E (c : Thread nD τ) R (k0_part324 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v610 v12718 v12983 v12997) := by
  rw [k0_part324_eq_skeleton]; unfold k0_part324_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part325 (v127 v13005 v13006 v13028 v13031) :
    Safe defs₀ Variants.none E (c : Thread nD τ) R (k0_part325 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13005 v13006 v13028 v13031) := by
  rw [k0_part325_eq_skeleton]; unfold k0_part325_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part326 (v127 v13005 v13006 v13070 v13073) :
    Safe defs₀ Variants.none E (c : Thread nD τ) R (k0_part326 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13005 v13006 v13070 v13073) := by
  rw [k0_part326_eq_skeleton]; unfold k0_part326_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part327 (v127 v13005 v13006 v13112) :
    Safe defs₀ Variants.none E (c : Thread nD τ) R (k0_part327 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13005 v13006 v13112) := by
  rw [k0_part327_eq_skeleton]; unfold k0_part327_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part328 (v127 v610 v12718 v13005 v13006 v13133 v13149 v13151) :
    Safe defs₀ Variants.none E (c : Thread nD τ) R (k0_part328 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v610 v12718 v13005 v13006 v13133 v13149 v13151) := by
  rw [k0_part328_eq_skeleton]; unfold k0_part328_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part329 (v127 v13176 v13177 v13178 v13186 v13188) :
    Safe defs₀ Variants.none E (c : Thread nD τ) R (k0_part329 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13176 v13177 v13178 v13186 v13188) := by
  rw [k0_part329_eq_skeleton]; unfold k0_part329_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part330 (v127 v13176 v13177 v13220 v13223) :
    Safe defs₀ Variants.none E (c : Thread nD τ) R (k0_part330 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13176 v13177 v13220 v13223) := by
  rw [k0_part330_eq_skeleton]; unfold k0_part330_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part331 (v127 v13176 v13177 v13262 v13265) :
    Safe defs₀ Variants.none E (c : Thread nD τ) R (k0_part331 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13176 v13177 v13262 v13265) := by
  rw [k0_part331_eq_skeleton]; unfold k0_part331_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part332 (v127 v13176 v13177 v13304) :
    Safe defs₀ Variants.none E (c : Thread nD τ) R (k0_part332 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13176 v13177 v13304) := by
  rw [k0_part332_eq_skeleton]; unfold k0_part332_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part333 (v127 v610 v12718 v13325 v13341 v13342) :
    Safe defs₀ Variants.none E (c : Thread nD τ) R (k0_part333 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v610 v12718 v13325 v13341 v13342) := by
  rw [k0_part333_eq_skeleton]; unfold k0_part333_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part334 (v127 v13347 v13348 v13370 v13378 v13379) :
    Safe defs₀ Variants.none E (c : Thread nD τ) R (k0_part334 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13347 v13348 v13370 v13378 v13379) := by
  rw [k0_part334_eq_skeleton]; unfold k0_part334_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part335 (v127 v13347 v13348 v13412 v13415) :
    Safe defs₀ Variants.none E (c : Thread nD τ) R (k0_part335 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13347 v13348 v13412 v13415) := by
  rw [k0_part335_eq_skeleton]; unfold k0_part335_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part336 (v127 v13347 v13348 v13454) :
    Safe defs₀ Variants.none E (c : Thread nD τ) R (k0_part336 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v13347 v13348 v13454) := by
  rw [k0_part336_eq_skeleton]; unfold k0_part336_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part337 (v127 v706 v708 v734 v736 v786 v788 v1509 v1511 v1537 v1539 v1589 v1591 v2312 v2314 v2340 v2342 v2392 v2394 v3115 v3117 v3143 v3145 v3195 v3197 v3918 v3920 v13004 v13175 v13346 v13347 v13348 v13496) :
    Safe defs₀ Variants.none E (c : Thread nD τ) R (k0_part337 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v706 v708 v734 v736 v786 v788 v1509 v1511 v1537 v1539 v1589 v1591 v2312 v2314 v2340 v2342 v2392 v2394 v3115 v3117 v3143 v3145 v3195 v3197 v3918 v3920 v13004 v13175 v13346 v13347 v13348 v13496) := by
  rw [k0_part337_eq_skeleton]; unfold k0_part337_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part338 (v296 v692 v1495 v2298 v3101 v3904 v3946 v3948 v3998 v4000 v4707 v4721 v4723 v4749 v4751 v4801 v4803 v5510 v5524 v5526 v5552 v5554 v5604 v5606 v6313 v6327 v6329 v6355 v6357 v6407 v6409 v7130 v7132 v7158 v7160 v7210 v7212 v7933 v7935 v7961 v7963 v8013 v8015 v8736 v8738) :
    Safe defs₀ Variants.none E (c : Thread nD τ) R (k0_part338 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v296 v692 v1495 v2298 v3101 v3904 v3946 v3948 v3998 v4000 v4707 v4721 v4723 v4749 v4751 v4801 v4803 v5510 v5524 v5526 v5552 v5554 v5604 v5606 v6313 v6327 v6329 v6355 v6357 v6407 v6409 v7130 v7132 v7158 v7160 v7210 v7212 v7933 v7935 v7961 v7963 v8013 v8015 v8736 v8738) := by
  rw [k0_part338_eq_skeleton]; unfold k0_part338_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part342 (v180 v229 v278 v296 v688 v1474 v2277 v6314 v13520 v13521 v13522 v13523 v13524 v13559 v13648 v13681) :
    Safe defs₀ Variants.none E (c : Thread nD τ) R (k0_part342 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v296 v688 v1474 v2277 v6314 v13520 v13521 v13522 v13523 v13524 v13559 v13648 v13681) := by
  rw [k0_part342_eq_skeleton]; unfold k0_part342_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part343 (v180 v229 v278 v296 v1491 v3080 v13525 v13526 v13527 v13528 v13653 v13721 v13726) :
    Safe defs₀ Variants.none E (c : Thread nD τ) R (k0_part343 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v296 v1491 v3080 v13525 v13526 v13527 v13528 v13653 v13721 v13726) := by
  rw [k0_part343_eq_skeleton]; unfold k0_part343_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part344 (v180 v229 v278 v296 v2294 v3097 v3883 v4686 v13529 v13530 v13531 v13532 v13533 v13658 v13663 v13759 v13768 v13769) :
    Safe defs₀ Variants.none E (c : Thread nD τ) R (k0_part344 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v296 v2294 v3097 v3883 v4686 v13529 v13530 v13531 v13532 v13533 v13658 v13663 v13759 v13768 v13769) := by
  rw [k0_part344_eq_skeleton]; unfold k0_part344_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part345 (v180 v229 v278 v296 v3900 v5489 v13533 v13534 v13535 v13536 v13537 v13668 v13811 v13812 v13813 cst_6268) :
    Safe defs₀ Variants.none E (c : Thread nD τ) R (k0_part345 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v296 v3900 v5489 v13533 v13534 v13535 v13536 v13537 v13668 v13811 v13812 v13813 cst_6268) := by
  rw [k0_part345_eq_skeleton]; unfold k0_part345_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part346 (v180 v229 v278 v296 v4703 v5506 v6292 v7095 v13538 v13539 v13540 v13541 v13673 v13678 v13849 v13850 v13851 v13852 v13853 v13854 v13855 v13856 v13857) :
    Safe defs₀ Variants.none E (c : Thread nD τ) R (k0_part346 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v296 v4703 v5506 v6292 v7095 v13538 v13539 v13540 v13541 v13673 v13678 v13849 v13850 v13851 v13852 v13853 v13854 v13855 v13856 v13857) := by
  rw [k0_part346_eq_skeleton]; unfold k0_part346_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part347 (v11 v229 v278 v296 v6309 v13542 v13543 v13683 v13686 v13716 v13901 cst_6300) :
    Safe defs₀ Variants.none E (c : Thread nD τ) R (k0_part347 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v229 v278 v296 v6309 v13542 v13543 v13683 v13686 v13716 v13901 cst_6300) := by
  rw [k0_part347_eq_skeleton]; unfold k0_part347_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part348 (v13641 v13716 v13746 v13776 v13806 v13934 v13943) :
    Safe defs₀ Variants.none E (c : Thread nD τ) R (k0_part348 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13641 v13716 v13746 v13776 v13806 v13934 v13943) := by
  rw [k0_part348_eq_skeleton]; unfold k0_part348_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part349 (v13641 v13806 v13836 v13866 v13934 v13987) :
    Safe defs₀ Variants.none E (c : Thread nD τ) R (k0_part349 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13641 v13806 v13836 v13866 v13934 v13987) := by
  rw [k0_part349_eq_skeleton]; unfold k0_part349_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part350 (v11 v13641 v13896 v13926 v13934 v14031 v14033) :
    Safe defs₀ Variants.none E (c : Thread nD τ) R (k0_part350 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v13641 v13896 v13926 v13934 v14031 v14033) := by
  rw [k0_part350_eq_skeleton]; unfold k0_part350_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part351 (v180 v229 v7117 v7898 v7920 v8723 v9526 v10329 v11132 v11935 v12738 v13560 v13561 v13585 v13587 v13589 v13591 v13593 v13595 v13597 v13599 v14074) :
    Safe defs₀ Variants.none E (c : Thread nD τ) R (k0_part351 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v7117 v7898 v7920 v8723 v9526 v10329 v11132 v11935 v12738 v13560 v13561 v13585 v13587 v13589 v13591 v13593 v13595 v13597 v13599 v14074) := by
  rw [k0_part351_eq_skeleton]; unfold k0_part351_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part352 (v180 v229 v278 v300 v7112 v7915 v8701 v13562 v13563 v13564 v13565 v14077 v14128 cst_6364) :
    Safe defs₀ Variants.none E (c : Thread nD τ) R (k0_part352 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v300 v7112 v7915 v8701 v13562 v13563 v13564 v13565 v14077 v14128 cst_6364) := by
  rw [k0_part352_eq_skeleton]; unfold k0_part352_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part353 (v180 v229 v278 v300 v8718 v9504 v10307 v13566 v13567 v13568 v13569 v13570 v14082 v14087 v14172 v14173) :
    Safe defs₀ Variants.none E (c : Thread nD τ) R (k0_part353 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v300 v8718 v9504 v10307 v13566 v13567 v13568 v13569 v13570 v14082 v14087 v14172 v14173) := by
  rw [k0_part353_eq_skeleton]; unfold k0_part353_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part354 (v180 v229 v278 v300 v9521 v11110 v13571 v13572 v13573 v13574 v14092 v14210 v14215 v14216) :
    Safe defs₀ Variants.none E (c : Thread nD τ) R (k0_part354 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v300 v9521 v11110 v13571 v13572 v13573 v13574 v14092 v14210 v14215 v14216) := by
  rw [k0_part354_eq_skeleton]; unfold k0_part354_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part355 (v180 v229 v278 v300 v10324 v11127 v11913 v12716 v13575 v13576 v13577 v13578 v13579 v14097 v14102 v14260) :
    Safe defs₀ Variants.none E (c : Thread nD τ) R (k0_part355 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v300 v10324 v11127 v11913 v12716 v13575 v13576 v13577 v13578 v13579 v14097 v14102 v14260) := by
  rw [k0_part355_eq_skeleton]; unfold k0_part355_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part356 (v180 v229 v278 v300 v11930 v13519 v13580 v13581 v13582 v13583 v14107 v14300 v14301 v14302 v14303 v14304) :
    Safe defs₀ Variants.none E (c : Thread nD τ) R (k0_part356 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v180 v229 v278 v300 v11930 v13519 v13580 v13581 v13582 v13583 v14107 v14300 v14301 v14302 v14303 v14304) := by
  rw [k0_part356_eq_skeleton]; unfold k0_part356_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part357 (v11 v278 v300 v12733 v13641 v14112 v14115 v14145 v14175 v14338 v14347 cst_6445) :
    Safe defs₀ Variants.none E (c : Thread nD τ) R (k0_part357 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v278 v300 v12733 v13641 v14112 v14115 v14145 v14175 v14338 v14347 cst_6445) := by
  rw [k0_part357_eq_skeleton]; unfold k0_part357_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part358 (v13641 v14205 v14235 v14265 v14363 v14390) :
    Safe defs₀ Variants.none E (c : Thread nD τ) R (k0_part358 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13641 v14205 v14235 v14265 v14363 v14390) := by
  rw [k0_part358_eq_skeleton]; unfold k0_part358_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part359 (v13641 v14265 v14295 v14325 v14363 v14434) :
    Safe defs₀ Variants.none E (c : Thread nD τ) R (k0_part359 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13641 v14265 v14295 v14325 v14363 v14434) := by
  rw [k0_part359_eq_skeleton]; unfold k0_part359_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split

theorem safe1_part365 (v127 v294 v295 v415 v430 v445 v460 v2279 v2395 v2396 v2481 v2484) :
    Safe defs₀ Variants.none E (c : Thread nD τ) R (k0_part365 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v415 v430 v445 v460 v2279 v2395 v2396 v2481 v2484) := by
  rw [k0_part365_eq_skeleton]; unfold k0_part365_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part61_eq_skeleton]; unfold k0_part61_skel; try dsimp only)
    | (rw [k0_part62_eq_skeleton]; unfold k0_part62_skel; try dsimp only)
    | (rw [k0_part63_eq_skeleton]; unfold k0_part63_skel; try dsimp only)
    | (rw [k0_part64_eq_skeleton]; unfold k0_part64_skel; try dsimp only)
    | (rw [k0_part65_eq_skeleton]; unfold k0_part65_skel; try dsimp only)
    | (rw [k0_part66_eq_skeleton]; unfold k0_part66_skel; try dsimp only)
    | (rw [k0_part67_eq_skeleton]; unfold k0_part67_skel; try dsimp only)
    | (rw [k0_part68_eq_skeleton]; unfold k0_part68_skel; try dsimp only)
    | (rw [k0_part69_eq_skeleton]; unfold k0_part69_skel; try dsimp only)
    | (rw [k0_part70_eq_skeleton]; unfold k0_part70_skel; try dsimp only)
    | (rw [k0_part71_eq_skeleton]; unfold k0_part71_skel; try dsimp only)
    | (rw [k0_part72_eq_skeleton]; unfold k0_part72_skel; try dsimp only)
    | (rw [k0_part73_eq_skeleton]; unfold k0_part73_skel; try dsimp only)
    | (rw [k0_part74_eq_skeleton]; unfold k0_part74_skel; try dsimp only)
    | (rw [k0_part75_eq_skeleton]; unfold k0_part75_skel; try dsimp only)
    | (rw [k0_part76_eq_skeleton]; unfold k0_part76_skel; try dsimp only)
    | (rw [k0_part77_eq_skeleton]; unfold k0_part77_skel; try dsimp only)
    | (rw [k0_part78_eq_skeleton]; unfold k0_part78_skel; try dsimp only)
    | (rw [k0_part79_eq_skeleton]; unfold k0_part79_skel; try dsimp only)
    | (rw [k0_part80_eq_skeleton]; unfold k0_part80_skel; try dsimp only)
    | (rw [k0_part81_eq_skeleton]; unfold k0_part81_skel; try dsimp only)
    | (rw [k0_part82_eq_skeleton]; unfold k0_part82_skel; try dsimp only)
    | (rw [k0_part83_eq_skeleton]; unfold k0_part83_skel; try dsimp only)
    | (rw [k0_part84_eq_skeleton]; unfold k0_part84_skel; try dsimp only)
    | (rw [k0_part85_eq_skeleton]; unfold k0_part85_skel; try dsimp only)
    | (rw [k0_part86_eq_skeleton]; unfold k0_part86_skel; try dsimp only)
    | (rw [k0_part87_eq_skeleton]; unfold k0_part87_skel; try dsimp only)
    | (rw [k0_part88_eq_skeleton]; unfold k0_part88_skel; try dsimp only)
    | (rw [k0_part89_eq_skeleton]; unfold k0_part89_skel; try dsimp only)
    | (rw [k0_part90_eq_skeleton]; unfold k0_part90_skel; try dsimp only)
    | (rw [k0_part91_eq_skeleton]; unfold k0_part91_skel; try dsimp only)
    | (rw [k0_part92_eq_skeleton]; unfold k0_part92_skel; try dsimp only)
    | (rw [k0_part93_eq_skeleton]; unfold k0_part93_skel; try dsimp only)
    | (rw [k0_part94_eq_skeleton]; unfold k0_part94_skel; try dsimp only)
    | (rw [k0_part95_eq_skeleton]; unfold k0_part95_skel; try dsimp only)
    | (rw [k0_part96_eq_skeleton]; unfold k0_part96_skel; try dsimp only)
    | (rw [k0_part97_eq_skeleton]; unfold k0_part97_skel; try dsimp only)
    | (rw [k0_part98_eq_skeleton]; unfold k0_part98_skel; try dsimp only)
    | (rw [k0_part99_eq_skeleton]; unfold k0_part99_skel; try dsimp only)
    | (rw [k0_part100_eq_skeleton]; unfold k0_part100_skel; try dsimp only)
    | (rw [k0_part101_eq_skeleton]; unfold k0_part101_skel; try dsimp only)
    | (rw [k0_part102_eq_skeleton]; unfold k0_part102_skel; try dsimp only)
    | (rw [k0_part103_eq_skeleton]; unfold k0_part103_skel; try dsimp only)
    | (rw [k0_part104_eq_skeleton]; unfold k0_part104_skel; try dsimp only)
    | (rw [k0_part105_eq_skeleton]; unfold k0_part105_skel; try dsimp only)
    | (rw [k0_part106_eq_skeleton]; unfold k0_part106_skel; try dsimp only)
    | (rw [k0_part107_eq_skeleton]; unfold k0_part107_skel; try dsimp only)
    | (rw [k0_part108_eq_skeleton]; unfold k0_part108_skel; try dsimp only)
    | (rw [k0_part109_eq_skeleton]; unfold k0_part109_skel; try dsimp only)
    | (rw [k0_part110_eq_skeleton]; unfold k0_part110_skel; try dsimp only)
    | (rw [k0_part111_eq_skeleton]; unfold k0_part111_skel; try dsimp only)
    | (rw [k0_part112_eq_skeleton]; unfold k0_part112_skel; try dsimp only)
    | (rw [k0_part113_eq_skeleton]; unfold k0_part113_skel; try dsimp only)
    | (rw [k0_part114_eq_skeleton]; unfold k0_part114_skel; try dsimp only)
    | (rw [k0_part115_eq_skeleton]; unfold k0_part115_skel; try dsimp only)
    | (rw [k0_part116_eq_skeleton]; unfold k0_part116_skel; try dsimp only)
    | (rw [k0_part117_eq_skeleton]; unfold k0_part117_skel; try dsimp only)
    | (rw [k0_part118_eq_skeleton]; unfold k0_part118_skel; try dsimp only)
    | (rw [k0_part119_eq_skeleton]; unfold k0_part119_skel; try dsimp only)
    | (rw [k0_part120_eq_skeleton]; unfold k0_part120_skel; try dsimp only)

theorem safe1_part366 (v127 v294 v295 v298 v299 v460 v475 v490 v505 v4688 v4804 v4805 v4869 v4885) :
    Safe defs₀ Variants.none E (c : Thread nD τ) R (k0_part366 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v294 v295 v298 v299 v460 v475 v490 v505 v4688 v4804 v4805 v4869 v4885) := by
  rw [k0_part366_eq_skeleton]; unfold k0_part366_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part121_eq_skeleton]; unfold k0_part121_skel; try dsimp only)
    | (rw [k0_part122_eq_skeleton]; unfold k0_part122_skel; try dsimp only)
    | (rw [k0_part123_eq_skeleton]; unfold k0_part123_skel; try dsimp only)
    | (rw [k0_part124_eq_skeleton]; unfold k0_part124_skel; try dsimp only)
    | (rw [k0_part125_eq_skeleton]; unfold k0_part125_skel; try dsimp only)
    | (rw [k0_part126_eq_skeleton]; unfold k0_part126_skel; try dsimp only)
    | (rw [k0_part127_eq_skeleton]; unfold k0_part127_skel; try dsimp only)
    | (rw [k0_part128_eq_skeleton]; unfold k0_part128_skel; try dsimp only)
    | (rw [k0_part129_eq_skeleton]; unfold k0_part129_skel; try dsimp only)
    | (rw [k0_part130_eq_skeleton]; unfold k0_part130_skel; try dsimp only)
    | (rw [k0_part131_eq_skeleton]; unfold k0_part131_skel; try dsimp only)
    | (rw [k0_part132_eq_skeleton]; unfold k0_part132_skel; try dsimp only)
    | (rw [k0_part133_eq_skeleton]; unfold k0_part133_skel; try dsimp only)
    | (rw [k0_part134_eq_skeleton]; unfold k0_part134_skel; try dsimp only)
    | (rw [k0_part135_eq_skeleton]; unfold k0_part135_skel; try dsimp only)
    | (rw [k0_part136_eq_skeleton]; unfold k0_part136_skel; try dsimp only)
    | (rw [k0_part137_eq_skeleton]; unfold k0_part137_skel; try dsimp only)
    | (rw [k0_part138_eq_skeleton]; unfold k0_part138_skel; try dsimp only)
    | (rw [k0_part139_eq_skeleton]; unfold k0_part139_skel; try dsimp only)
    | (rw [k0_part140_eq_skeleton]; unfold k0_part140_skel; try dsimp only)
    | (rw [k0_part141_eq_skeleton]; unfold k0_part141_skel; try dsimp only)
    | (rw [k0_part142_eq_skeleton]; unfold k0_part142_skel; try dsimp only)
    | (rw [k0_part143_eq_skeleton]; unfold k0_part143_skel; try dsimp only)
    | (rw [k0_part144_eq_skeleton]; unfold k0_part144_skel; try dsimp only)
    | (rw [k0_part145_eq_skeleton]; unfold k0_part145_skel; try dsimp only)
    | (rw [k0_part146_eq_skeleton]; unfold k0_part146_skel; try dsimp only)
    | (rw [k0_part147_eq_skeleton]; unfold k0_part147_skel; try dsimp only)
    | (rw [k0_part148_eq_skeleton]; unfold k0_part148_skel; try dsimp only)
    | (rw [k0_part149_eq_skeleton]; unfold k0_part149_skel; try dsimp only)
    | (rw [k0_part150_eq_skeleton]; unfold k0_part150_skel; try dsimp only)
    | (rw [k0_part151_eq_skeleton]; unfold k0_part151_skel; try dsimp only)
    | (rw [k0_part152_eq_skeleton]; unfold k0_part152_skel; try dsimp only)
    | (rw [k0_part153_eq_skeleton]; unfold k0_part153_skel; try dsimp only)
    | (rw [k0_part154_eq_skeleton]; unfold k0_part154_skel; try dsimp only)
    | (rw [k0_part155_eq_skeleton]; unfold k0_part155_skel; try dsimp only)
    | (rw [k0_part156_eq_skeleton]; unfold k0_part156_skel; try dsimp only)
    | (rw [k0_part157_eq_skeleton]; unfold k0_part157_skel; try dsimp only)
    | (rw [k0_part158_eq_skeleton]; unfold k0_part158_skel; try dsimp only)
    | (rw [k0_part159_eq_skeleton]; unfold k0_part159_skel; try dsimp only)
    | (rw [k0_part160_eq_skeleton]; unfold k0_part160_skel; try dsimp only)
    | (rw [k0_part161_eq_skeleton]; unfold k0_part161_skel; try dsimp only)
    | (rw [k0_part162_eq_skeleton]; unfold k0_part162_skel; try dsimp only)
    | (rw [k0_part163_eq_skeleton]; unfold k0_part163_skel; try dsimp only)
    | (rw [k0_part164_eq_skeleton]; unfold k0_part164_skel; try dsimp only)
    | (rw [k0_part165_eq_skeleton]; unfold k0_part165_skel; try dsimp only)
    | (rw [k0_part166_eq_skeleton]; unfold k0_part166_skel; try dsimp only)
    | (rw [k0_part167_eq_skeleton]; unfold k0_part167_skel; try dsimp only)
    | (rw [k0_part168_eq_skeleton]; unfold k0_part168_skel; try dsimp only)
    | (rw [k0_part169_eq_skeleton]; unfold k0_part169_skel; try dsimp only)
    | (rw [k0_part170_eq_skeleton]; unfold k0_part170_skel; try dsimp only)
    | (rw [k0_part171_eq_skeleton]; unfold k0_part171_skel; try dsimp only)
    | (rw [k0_part172_eq_skeleton]; unfold k0_part172_skel; try dsimp only)
    | (rw [k0_part173_eq_skeleton]; unfold k0_part173_skel; try dsimp only)
    | (rw [k0_part174_eq_skeleton]; unfold k0_part174_skel; try dsimp only)
    | (rw [k0_part175_eq_skeleton]; unfold k0_part175_skel; try dsimp only)
    | (rw [k0_part176_eq_skeleton]; unfold k0_part176_skel; try dsimp only)
    | (rw [k0_part177_eq_skeleton]; unfold k0_part177_skel; try dsimp only)
    | (rw [k0_part178_eq_skeleton]; unfold k0_part178_skel; try dsimp only)
    | (rw [k0_part179_eq_skeleton]; unfold k0_part179_skel; try dsimp only)
    | (rw [k0_part180_eq_skeleton]; unfold k0_part180_skel; try dsimp only)

theorem safe1_part367 (v127 v298 v299 v505 v520 v535 v550 v7097 v7213 v7214 v7278 v7281) :
    Safe defs₀ Variants.none E (c : Thread nD τ) R (k0_part367 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v298 v299 v505 v520 v535 v550 v7097 v7213 v7214 v7278 v7281) := by
  rw [k0_part367_eq_skeleton]; unfold k0_part367_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part181_eq_skeleton]; unfold k0_part181_skel; try dsimp only)
    | (rw [k0_part182_eq_skeleton]; unfold k0_part182_skel; try dsimp only)
    | (rw [k0_part183_eq_skeleton]; unfold k0_part183_skel; try dsimp only)
    | (rw [k0_part184_eq_skeleton]; unfold k0_part184_skel; try dsimp only)
    | (rw [k0_part185_eq_skeleton]; unfold k0_part185_skel; try dsimp only)
    | (rw [k0_part186_eq_skeleton]; unfold k0_part186_skel; try dsimp only)
    | (rw [k0_part187_eq_skeleton]; unfold k0_part187_skel; try dsimp only)
    | (rw [k0_part188_eq_skeleton]; unfold k0_part188_skel; try dsimp only)
    | (rw [k0_part189_eq_skeleton]; unfold k0_part189_skel; try dsimp only)
    | (rw [k0_part190_eq_skeleton]; unfold k0_part190_skel; try dsimp only)
    | (rw [k0_part191_eq_skeleton]; unfold k0_part191_skel; try dsimp only)
    | (rw [k0_part192_eq_skeleton]; unfold k0_part192_skel; try dsimp only)
    | (rw [k0_part193_eq_skeleton]; unfold k0_part193_skel; try dsimp only)
    | (rw [k0_part194_eq_skeleton]; unfold k0_part194_skel; try dsimp only)
    | (rw [k0_part195_eq_skeleton]; unfold k0_part195_skel; try dsimp only)
    | (rw [k0_part196_eq_skeleton]; unfold k0_part196_skel; try dsimp only)
    | (rw [k0_part197_eq_skeleton]; unfold k0_part197_skel; try dsimp only)
    | (rw [k0_part198_eq_skeleton]; unfold k0_part198_skel; try dsimp only)
    | (rw [k0_part199_eq_skeleton]; unfold k0_part199_skel; try dsimp only)
    | (rw [k0_part200_eq_skeleton]; unfold k0_part200_skel; try dsimp only)
    | (rw [k0_part201_eq_skeleton]; unfold k0_part201_skel; try dsimp only)
    | (rw [k0_part202_eq_skeleton]; unfold k0_part202_skel; try dsimp only)
    | (rw [k0_part203_eq_skeleton]; unfold k0_part203_skel; try dsimp only)
    | (rw [k0_part204_eq_skeleton]; unfold k0_part204_skel; try dsimp only)
    | (rw [k0_part205_eq_skeleton]; unfold k0_part205_skel; try dsimp only)
    | (rw [k0_part206_eq_skeleton]; unfold k0_part206_skel; try dsimp only)
    | (rw [k0_part207_eq_skeleton]; unfold k0_part207_skel; try dsimp only)
    | (rw [k0_part208_eq_skeleton]; unfold k0_part208_skel; try dsimp only)
    | (rw [k0_part209_eq_skeleton]; unfold k0_part209_skel; try dsimp only)
    | (rw [k0_part210_eq_skeleton]; unfold k0_part210_skel; try dsimp only)
    | (rw [k0_part211_eq_skeleton]; unfold k0_part211_skel; try dsimp only)
    | (rw [k0_part212_eq_skeleton]; unfold k0_part212_skel; try dsimp only)
    | (rw [k0_part213_eq_skeleton]; unfold k0_part213_skel; try dsimp only)
    | (rw [k0_part214_eq_skeleton]; unfold k0_part214_skel; try dsimp only)
    | (rw [k0_part215_eq_skeleton]; unfold k0_part215_skel; try dsimp only)
    | (rw [k0_part216_eq_skeleton]; unfold k0_part216_skel; try dsimp only)
    | (rw [k0_part217_eq_skeleton]; unfold k0_part217_skel; try dsimp only)
    | (rw [k0_part218_eq_skeleton]; unfold k0_part218_skel; try dsimp only)
    | (rw [k0_part219_eq_skeleton]; unfold k0_part219_skel; try dsimp only)
    | (rw [k0_part220_eq_skeleton]; unfold k0_part220_skel; try dsimp only)
    | (rw [k0_part221_eq_skeleton]; unfold k0_part221_skel; try dsimp only)
    | (rw [k0_part222_eq_skeleton]; unfold k0_part222_skel; try dsimp only)
    | (rw [k0_part223_eq_skeleton]; unfold k0_part223_skel; try dsimp only)
    | (rw [k0_part224_eq_skeleton]; unfold k0_part224_skel; try dsimp only)
    | (rw [k0_part225_eq_skeleton]; unfold k0_part225_skel; try dsimp only)
    | (rw [k0_part226_eq_skeleton]; unfold k0_part226_skel; try dsimp only)
    | (rw [k0_part227_eq_skeleton]; unfold k0_part227_skel; try dsimp only)
    | (rw [k0_part228_eq_skeleton]; unfold k0_part228_skel; try dsimp only)
    | (rw [k0_part229_eq_skeleton]; unfold k0_part229_skel; try dsimp only)
    | (rw [k0_part230_eq_skeleton]; unfold k0_part230_skel; try dsimp only)
    | (rw [k0_part231_eq_skeleton]; unfold k0_part231_skel; try dsimp only)
    | (rw [k0_part232_eq_skeleton]; unfold k0_part232_skel; try dsimp only)
    | (rw [k0_part233_eq_skeleton]; unfold k0_part233_skel; try dsimp only)
    | (rw [k0_part234_eq_skeleton]; unfold k0_part234_skel; try dsimp only)
    | (rw [k0_part235_eq_skeleton]; unfold k0_part235_skel; try dsimp only)
    | (rw [k0_part236_eq_skeleton]; unfold k0_part236_skel; try dsimp only)
    | (rw [k0_part237_eq_skeleton]; unfold k0_part237_skel; try dsimp only)
    | (rw [k0_part238_eq_skeleton]; unfold k0_part238_skel; try dsimp only)
    | (rw [k0_part239_eq_skeleton]; unfold k0_part239_skel; try dsimp only)
    | (rw [k0_part240_eq_skeleton]; unfold k0_part240_skel; try dsimp only)

theorem safe1_part368 (v127 v298 v299 v550 v565 v580 v595 v9506 v9622 v9623 v9666 v9682 v9684) :
    Safe defs₀ Variants.none E (c : Thread nD τ) R (k0_part368 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v127 v298 v299 v550 v565 v580 v595 v9506 v9622 v9623 v9666 v9682 v9684) := by
  rw [k0_part368_eq_skeleton]; unfold k0_part368_skel
  try dsimp only
  with_reducible
  repeat' first
    | assumption
    | exact Safe.pure _
    | refine Safe.bind ?_ (fun _ => ?_)
    | refine Safe.load ?_
    | refine Safe.store ?_
    | refine Rd.squeeze ?_ _
    | refine Wr.squeeze ?_ _
    | refine Rd.slice ?_ _ _
    | refine Wr.slice ?_ _ _
    | refine Wr.rd ?_
    | refine Safe.dite (fun _ => ?_) (fun _ => ?_)
    | split
    | (rw [k0_part241_eq_skeleton]; unfold k0_part241_skel; try dsimp only)
    | (rw [k0_part242_eq_skeleton]; unfold k0_part242_skel; try dsimp only)
    | (rw [k0_part243_eq_skeleton]; unfold k0_part243_skel; try dsimp only)
    | (rw [k0_part244_eq_skeleton]; unfold k0_part244_skel; try dsimp only)
    | (rw [k0_part245_eq_skeleton]; unfold k0_part245_skel; try dsimp only)
    | (rw [k0_part246_eq_skeleton]; unfold k0_part246_skel; try dsimp only)
    | (rw [k0_part247_eq_skeleton]; unfold k0_part247_skel; try dsimp only)
    | (rw [k0_part248_eq_skeleton]; unfold k0_part248_skel; try dsimp only)
    | (rw [k0_part249_eq_skeleton]; unfold k0_part249_skel; try dsimp only)
    | (rw [k0_part250_eq_skeleton]; unfold k0_part250_skel; try dsimp only)
    | (rw [k0_part251_eq_skeleton]; unfold k0_part251_skel; try dsimp only)
    | (rw [k0_part252_eq_skeleton]; unfold k0_part252_skel; try dsimp only)
    | (rw [k0_part253_eq_skeleton]; unfold k0_part253_skel; try dsimp only)
    | (rw [k0_part254_eq_skeleton]; unfold k0_part254_skel; try dsimp only)
    | (rw [k0_part255_eq_skeleton]; unfold k0_part255_skel; try dsimp only)
    | (rw [k0_part256_eq_skeleton]; unfold k0_part256_skel; try dsimp only)
    | (rw [k0_part257_eq_skeleton]; unfold k0_part257_skel; try dsimp only)
    | (rw [k0_part258_eq_skeleton]; unfold k0_part258_skel; try dsimp only)
    | (rw [k0_part259_eq_skeleton]; unfold k0_part259_skel; try dsimp only)
    | (rw [k0_part260_eq_skeleton]; unfold k0_part260_skel; try dsimp only)
    | (rw [k0_part261_eq_skeleton]; unfold k0_part261_skel; try dsimp only)
    | (rw [k0_part262_eq_skeleton]; unfold k0_part262_skel; try dsimp only)
    | (rw [k0_part263_eq_skeleton]; unfold k0_part263_skel; try dsimp only)
    | (rw [k0_part264_eq_skeleton]; unfold k0_part264_skel; try dsimp only)
    | (rw [k0_part265_eq_skeleton]; unfold k0_part265_skel; try dsimp only)
    | (rw [k0_part266_eq_skeleton]; unfold k0_part266_skel; try dsimp only)
    | (rw [k0_part267_eq_skeleton]; unfold k0_part267_skel; try dsimp only)
    | (rw [k0_part268_eq_skeleton]; unfold k0_part268_skel; try dsimp only)
    | (rw [k0_part269_eq_skeleton]; unfold k0_part269_skel; try dsimp only)
    | (rw [k0_part270_eq_skeleton]; unfold k0_part270_skel; try dsimp only)
    | (rw [k0_part271_eq_skeleton]; unfold k0_part271_skel; try dsimp only)
    | (rw [k0_part272_eq_skeleton]; unfold k0_part272_skel; try dsimp only)
    | (rw [k0_part273_eq_skeleton]; unfold k0_part273_skel; try dsimp only)
    | (rw [k0_part274_eq_skeleton]; unfold k0_part274_skel; try dsimp only)
    | (rw [k0_part275_eq_skeleton]; unfold k0_part275_skel; try dsimp only)
    | (rw [k0_part276_eq_skeleton]; unfold k0_part276_skel; try dsimp only)
    | (rw [k0_part277_eq_skeleton]; unfold k0_part277_skel; try dsimp only)
    | (rw [k0_part278_eq_skeleton]; unfold k0_part278_skel; try dsimp only)
    | (rw [k0_part279_eq_skeleton]; unfold k0_part279_skel; try dsimp only)
    | (rw [k0_part280_eq_skeleton]; unfold k0_part280_skel; try dsimp only)
    | (rw [k0_part281_eq_skeleton]; unfold k0_part281_skel; try dsimp only)
    | (rw [k0_part282_eq_skeleton]; unfold k0_part282_skel; try dsimp only)
    | (rw [k0_part283_eq_skeleton]; unfold k0_part283_skel; try dsimp only)
    | (rw [k0_part284_eq_skeleton]; unfold k0_part284_skel; try dsimp only)
    | (rw [k0_part285_eq_skeleton]; unfold k0_part285_skel; try dsimp only)
    | (rw [k0_part286_eq_skeleton]; unfold k0_part286_skel; try dsimp only)
    | (rw [k0_part287_eq_skeleton]; unfold k0_part287_skel; try dsimp only)
    | (rw [k0_part288_eq_skeleton]; unfold k0_part288_skel; try dsimp only)
    | (rw [k0_part289_eq_skeleton]; unfold k0_part289_skel; try dsimp only)
    | (rw [k0_part290_eq_skeleton]; unfold k0_part290_skel; try dsimp only)
    | (rw [k0_part291_eq_skeleton]; unfold k0_part291_skel; try dsimp only)
    | (rw [k0_part292_eq_skeleton]; unfold k0_part292_skel; try dsimp only)
    | (rw [k0_part293_eq_skeleton]; unfold k0_part293_skel; try dsimp only)
    | (rw [k0_part294_eq_skeleton]; unfold k0_part294_skel; try dsimp only)
    | (rw [k0_part295_eq_skeleton]; unfold k0_part295_skel; try dsimp only)
    | (rw [k0_part296_eq_skeleton]; unfold k0_part296_skel; try dsimp only)
    | (rw [k0_part297_eq_skeleton]; unfold k0_part297_skel; try dsimp only)
    | (rw [k0_part298_eq_skeleton]; unfold k0_part298_skel; try dsimp only)
    | (rw [k0_part299_eq_skeleton]; unfold k0_part299_skel; try dsimp only)
    | (rw [k0_part300_eq_skeleton]; unfold k0_part300_skel; try dsimp only)

end safe

end Cert.MixerIdeal.Gen
end
-- ==== Proof.MixerIdealRun.lean ====
/- What the mixer's body does to the buffers that the retention half and the four casts go through. -/
module

public import proofs.«01_k».proof.Proof.Track
public import proofs.«01_k».proof.Proof.MixerIdealSafe

@[expose] public section

set_option maxRecDepth 65536
set_option maxHeartbeats 4000000

noncomputable section

namespace Cert.MixerIdeal.Gen

open Idealize.ShloMosaic Idealize.ShloMosaic.TcCoe Cert.Safety
open Idealize.SL Idealize.SL.RA Idealize.SL.BI Idealize.SL.Sem
open Idealize.ShloMosaic.VecWindow (put)

/-- The contents that are followed: the retention half's block, the four casts', the normed rows, the two activation
    buffers and the retention states. -/
structure St (F : FTy → Type) where
  o : Vec F S512x256 .bf16
  w1 : Vec F S16x5632 .bf16
  w2 : Vec F S16x5632 .bf16
  w3 : Vec F S64x2048 .bf16
  w4 : Vec F S16x2048 .bf16
  h : Vec F S512x2048 .bf16
  a : Vec F S2x8x512x256 .bf16
  s : Vec F S4x256x256 .f32

/-- The consumed unit's column block. -/
def cjw (i : grid0.Coords) : BitVec 32 :=
  let arg0 : BitVec 32 := BitVec.ofNat 32 (i 0).val
  let v0 : BitVec 32 := Scalar.subi arg0 1#32
  let v1 : BitVec 32 := Scalar.maxsi v0 0#32
  let v2 : BitVec 1 := Scalar.cmpi .eq 4#32 0#32
  let v3 : BitVec 32 := Scalar.select v2 1#32 4#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  v11

/-- Set at the first point. -/
def cfirst (i : grid0.Coords) : BitVec 1 :=
  let arg0 : BitVec 32 := BitVec.ofNat 32 (i 0).val
  let v0 : BitVec 32 := Scalar.subi arg0 1#32
  let v1 : BitVec 32 := Scalar.maxsi v0 0#32
  let v2 : BitVec 1 := Scalar.cmpi .eq 4#32 0#32
  let v3 : BitVec 32 := Scalar.select v2 1#32 4#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v12 : BitVec 1 := Scalar.cmpi .eq arg0 0#32
  let v13 : BitVec 32 := Scalar.extui v12
  let v14 : BitVec 1 := Scalar.cmpi .ne v13 0#32
  v14

/-- Set where the produced unit begins a row block. -/
def crow (i : grid0.Coords) : BitVec 1 :=
  let arg0 : BitVec 32 := BitVec.ofNat 32 (i 0).val
  let v0 : BitVec 32 := Scalar.subi arg0 1#32
  let v1 : BitVec 32 := Scalar.maxsi v0 0#32
  let v2 : BitVec 1 := Scalar.cmpi .eq 4#32 0#32
  let v3 : BitVec 32 := Scalar.select v2 1#32 4#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v12 : BitVec 1 := Scalar.cmpi .eq arg0 0#32
  let v13 : BitVec 32 := Scalar.extui v12
  let v14 : BitVec 1 := Scalar.cmpi .ne v13 0#32
  let v15 : BitVec 1 := Scalar.cmpi .eq 4#32 0#32
  let v16 : BitVec 32 := Scalar.select v15 1#32 4#32
  let v17 : BitVec 32 := Scalar.remsi arg0 v16
  let v18 : BitVec 1 := Scalar.cmpi .ne v17 0#32
  let v19 : BitVec 1 := Scalar.cmpi .slt v17 0#32
  let v20 : BitVec 1 := Scalar.cmpi .slt v16 0#32
  let v21 : BitVec 1 := Scalar.xori v19 v20
  let v22 : BitVec 1 := Scalar.andi v21 v18
  let v23 : BitVec 32 := Scalar.addi v17 v16
  let v24 : BitVec 32 := Scalar.select v22 v23 v17
  let v25 : BitVec 1 := Scalar.cmpi .eq v24 0#32
  let v26 : BitVec 32 := Scalar.extui v25
  let v27 : BitVec 1 := Scalar.cmpi .ne v26 0#32
  v27

section rd
variable {F : FTy → Type} [FloatOps F] [Named F]

def ldx (X : Vec F S512x2048 .f32) : Vec F S512x2048 .f32 :=
  fun x => X ((Rect.unit (s := S512x2048) ![0, 0] S512x2048.size inb_S512x2048_S512x2048_0_0).toLoadRect.idx x)

def ldg (X : Vec F S1x2048 .f32) : Vec F S1x2048 .f32 :=
  fun x => X ((Rect.unit (s := S1x2048) ![0, 0] S1x2048.size inb_S1x2048_S1x2048_0_0).toLoadRect.idx x)

def ldh (X : Vec F S512x2048 .bf16) : Vec F S512x2048 .bf16 :=
  fun x => X ((Rect.unit (s := S512x2048) ![0, 0] S512x2048.size inb_S512x2048_S512x2048_0_0).toLoadRect.idx x)

def ldcos (X : Vec F S512x256 .f32) : Vec F S512x128 .f32 :=
  fun x => X ((Rect.unit (s := S512x256) ![0, 0] S512x128.size inb_S512x256_S512x128_0_0).toLoadRect.idx x)

def ldsin (X : Vec F S512x256 .f32) : Vec F S512x128 .f32 :=
  fun x => X ((Rect.unit (s := S512x256) ![0, 128] S512x128.size inb_S512x256_S512x128_0_128).toLoadRect.idx x)

def ldw0 (X : Vec F S1x8x2048x256 .bf16) : Vec F S1x1x2048x256 .bf16 :=
  fun x => X ((Rect.unit (s := S1x8x2048x256) ![0, 0, 0, 0] S1x1x2048x256.size inb_S1x8x2048x256_S1x1x2048x256_0_0_0_0).toLoadRect.idx x)

def ldw1 (X : Vec F S1x8x2048x256 .bf16) : Vec F S1x1x2048x256 .bf16 :=
  fun x => X ((Rect.unit (s := S1x8x2048x256) ![0, 1, 0, 0] S1x1x2048x256.size inb_S1x8x2048x256_S1x1x2048x256_0_1_0_0).toLoadRect.idx x)

def ldw2 (X : Vec F S1x8x2048x256 .bf16) : Vec F S1x1x2048x256 .bf16 :=
  fun x => X ((Rect.unit (s := S1x8x2048x256) ![0, 2, 0, 0] S1x1x2048x256.size inb_S1x8x2048x256_S1x1x2048x256_0_2_0_0).toLoadRect.idx x)

def ldw3 (X : Vec F S1x8x2048x256 .bf16) : Vec F S1x1x2048x256 .bf16 :=
  fun x => X ((Rect.unit (s := S1x8x2048x256) ![0, 3, 0, 0] S1x1x2048x256.size inb_S1x8x2048x256_S1x1x2048x256_0_3_0_0).toLoadRect.idx x)

def ldgain (X : Vec F S1x256 .f32) : Vec F S1x256 .f32 :=
  fun x => X ((Rect.unit (s := S1x256) ![0, 0] S1x256.size inb_S1x256_S1x256_0_0).toLoadRect.idx x)

def lda (X : Vec F S16x5632 .f32) : Vec F S16x5632 .f32 :=
  fun x => X ((Rect.unit (s := S16x5632) ![0, 0] S16x5632.size inb_S16x5632_S16x5632_0_0).toLoadRect.idx x)

def ldb (X : Vec F S64x2048 .f32) : Vec F S64x2048 .f32 :=
  fun x => X ((Rect.unit (s := S64x2048) ![0, 0] S64x2048.size inb_S64x2048_S64x2048_0_0).toLoadRect.idx x)

def ldc (X : Vec F S16x2048 .f32) : Vec F S16x2048 .f32 :=
  fun x => X ((Rect.unit (s := S16x2048) ![0, 0] S16x2048.size inb_S16x2048_S16x2048_0_0).toLoadRect.idx x)

/-- Slot 0 of the consumed unit's activations. -/
def slot0 (i : grid0.Coords) (a : Vec F S2x8x512x256 .bf16) : Vec F S1x512x256 .bf16 :=
  fun x => a ((Rect.unit (s := S2x8x512x256) (k0_off3 i) S1x8x512x256.size (k0_off3_inb i)).emb
    (Shape.reshapeEquiv squeezes_S1x8x512x256_S8x512x256.numel_eq ((Rect.unit (s := S8x512x256) ![0, 0, 0] S1x512x256.size inb_S8x512x256_S1x512x256_0_0_0).toLoadRect.idx x)))

/-- Slot 1 of the consumed unit's activations. -/
def slot1 (i : grid0.Coords) (a : Vec F S2x8x512x256 .bf16) : Vec F S1x512x256 .bf16 :=
  fun x => a ((Rect.unit (s := S2x8x512x256) (k0_off3 i) S1x8x512x256.size (k0_off3_inb i)).emb
    (Shape.reshapeEquiv squeezes_S1x8x512x256_S8x512x256.numel_eq ((Rect.unit (s := S8x512x256) ![1, 0, 0] S1x512x256.size inb_S8x512x256_S1x512x256_1_0_0).toLoadRect.idx x)))

/-- Slot 2 of the consumed unit's activations. -/
def slot2 (i : grid0.Coords) (a : Vec F S2x8x512x256 .bf16) : Vec F S1x512x256 .bf16 :=
  fun x => a ((Rect.unit (s := S2x8x512x256) (k0_off3 i) S1x8x512x256.size (k0_off3_inb i)).emb
    (Shape.reshapeEquiv squeezes_S1x8x512x256_S8x512x256.numel_eq ((Rect.unit (s := S8x512x256) ![2, 0, 0] S1x512x256.size inb_S8x512x256_S1x512x256_2_0_0).toLoadRect.idx x)))

/-- Slot 3 of the consumed unit's activations. -/
def slot3 (i : grid0.Coords) (a : Vec F S2x8x512x256 .bf16) : Vec F S1x512x256 .bf16 :=
  fun x => a ((Rect.unit (s := S2x8x512x256) (k0_off3 i) S1x8x512x256.size (k0_off3_inb i)).emb
    (Shape.reshapeEquiv squeezes_S1x8x512x256_S8x512x256.numel_eq ((Rect.unit (s := S8x512x256) ![3, 0, 0] S1x512x256.size inb_S8x512x256_S1x512x256_3_0_0).toLoadRect.idx x)))

/-- The state of the consumed unit's head. -/
def ldst (i : grid0.Coords) (s : Vec F S4x256x256 .f32) : Vec F S1x256x256 .f32 :=
  fun x => s ((Rect.unit (s := S4x256x256) (k0_off14 i) S1x256x256.size (k0_off14_inb i)).toLoadRect.idx x)

/-- What the body leaves, but for the four HGRN2 activations it stores. -/
def after (i : grid0.Coords) (X1 : Vec F S512x2048 .f32) (X2 : Vec F S1x2048 .f32) (X3 : Vec F S512x256 .f32) (X5 : Vec F S1x256 .f32)
    (X7 : Vec F S1x8x2048x256 .bf16) (X8 X9 : Vec F S16x5632 .f32) (X10 : Vec F S64x2048 .f32) (X11 : Vec F S16x2048 .f32)
    (u6 u7 u9 u10 : Vec F S1x1x512x256 .bf16) (t : St F) : St F :=
  let a1 := (if cfirst i = 1#1 then put t.a ![0, 0, 0, 0] S2x8x512x256.size (k0_pay2 (F := F)) else t.a)
  let h1 := (if crow i = 1#1 then put t.h ![0, 0] S512x2048.size (k0_pay4 (ldx X1) (ldg X2)) else t.h)
  let s1 := (if k0_cond3 i = 1#1 then put t.s (k0_off1 i) S1x256x256.size (k0_pay5 (F := F)) else t.s)
  let q := k0_pay35 (slot0 i a1)
  let k := k0_pay36 (slot1 i a1)
  let v := k0_pay37 (slot2 i a1)
  let dec := k0_pay39 (F := F) (cjw i)
  let qd := k0_pay40 (F := F) (cjw i)
  let kd := k0_pay41 (F := F) (cjw i)
  let gc := k0_pay42 (F := F) (cjw i)
  let hh := ldh h1
  let ak := k0_pay1250 (k0_pay1248 q) (k0_pay1249 k)
  let ak2 := k0_pay1251 q k
  let kv0 := k0_pay1252 k v kd
  let kv1 := k0_pay1253 k v kd
  let a2 := put a1 (k0_off6 i) S1x1x512x256.size u6
  let a3 := put a2 (k0_off7 i) S1x1x512x256.size u7
  let a4 := put a3 (k0_off9 i) S1x1x512x256.size u9
  let a5 := put a4 (k0_off10 i) S1x1x512x256.size u10
  let a6 := put a5 (k0_off12 i) S1x1x512x256.size (k0_pay1369 (k0_pay1368 hh (ldcos X3) (ldsin X3) (ldw0 X7)))
  let a7 := put a6 (k0_off13 i) S1x1x512x256.size (k0_pay1370 (ldcos X3) (ldsin X3) (k0_pay1367 hh (ldw1 X7)))
  let gt := k0_pay1371 (slot3 i a7)
  let st := ldst i s1
  let mid := k0_pay1375 gc kv0 st
  let o1 := put t.o ![0, 0] S256x256.size
    (k0_pay1382 q qd gt (k0_pay1373 st) (k0_pay1377 dec ak) (k0_pay1378 v) (constant S256x256 .f32 0x00000000#32) (ldgain X5))
  let o2 := put o1 ![256, 0] S256x256.size
    (k0_pay1384 gt (k0_pay1379 q v dec qd ak2 mid) (k0_pay1381 (ldgain X5)) (k0_pay1383 q v dec qd ak2 mid))
  let a8 := put a7 (k0_off15 i) S1x1x512x256.size (k0_pay1386 hh (ldw2 X7))
  let a9 := put a8 (k0_off16 i) S1x1x512x256.size (k0_pay1 (k0_pay1385 hh (ldw3 X7)) (k0_pay1387 hh (ldw3 X7)))
  ⟨o2, put t.w1 ![0, 0] S16x5632.size (k0_pay8 (lda X8)), put t.w2 ![0, 0] S16x5632.size (k0_pay9 (lda X9)),
    put t.w3 ![0, 0] S64x2048.size (k0_pay10 (ldb X10)), put t.w4 ![0, 0] S16x2048.size (k0_pay11 (ldc X11)),
    h1, a9, put s1 (k0_off14 i) S1x256x256.size (k0_pay1380 (k0_pay1376 gc kv0 kv1 st))⟩

end rd

variable {F : FTy → Type} [FloatOps F] [Named F]
variable {c : Dev nD} {G : St F → sProp (MT nD τ sig Unit (Elt F) ℕ (UR sig nD τ) ℕ)} {E : Set ℕ} (i : grid0.Coords)
variable {arg1 : Memref sig .tc .vmem S512x2048 .f32} {harg1 : arg1.IsWhole}
variable {arg2 : Memref sig .tc .vmem S1x2048 .f32} {harg2 : arg2.IsWhole}
variable {arg3 : Memref sig .tc .vmem S512x256 .f32} {harg3 : arg3.IsWhole}
variable {arg4 : Memref sig .tc .vmem S1x256 .f32} {harg4 : arg4.IsWhole}
variable {arg5 : Memref sig .tc .vmem S1x256 .f32} {harg5 : arg5.IsWhole}
variable {arg6 : Memref sig .tc .vmem S1x256 .f32} {harg6 : arg6.IsWhole}
variable {arg7 : Memref sig .tc .vmem S1x8x2048x256 .bf16} {harg7 : arg7.IsWhole}
variable {arg8 : Memref sig .tc .vmem S16x5632 .f32} {harg8 : arg8.IsWhole}
variable {arg9 : Memref sig .tc .vmem S16x5632 .f32} {harg9 : arg9.IsWhole}
variable {arg10 : Memref sig .tc .vmem S64x2048 .f32} {harg10 : arg10.IsWhole}
variable {arg11 : Memref sig .tc .vmem S16x2048 .f32} {harg11 : arg11.IsWhole}
variable {arg12 : Memref sig .tc .vmem S512x256 .bf16} {harg12 : arg12.IsWhole}
variable {arg13 : Memref sig .tc .vmem S512x256 .bf16} {harg13 : arg13.IsWhole}
variable {arg14 : Memref sig .tc .vmem S16x5632 .bf16} {harg14 : arg14.IsWhole}
variable {arg15 : Memref sig .tc .vmem S16x5632 .bf16} {harg15 : arg15.IsWhole}
variable {arg16 : Memref sig .tc .vmem S64x2048 .bf16} {harg16 : arg16.IsWhole}
variable {arg17 : Memref sig .tc .vmem S16x2048 .bf16} {harg17 : arg17.IsWhole}
variable {arg18 : Memref sig .tc .vmem S512x2048 .bf16} {harg18 : arg18.IsWhole}
variable {arg19 : Memref sig .tc .vmem S2x8x512x256 .bf16} {harg19 : arg19.IsWhole}
variable {arg20 : Memref sig .tc .vmem S2x512x256 .f32} {harg20 : arg20.IsWhole}
variable {arg21 : Memref sig .tc .vmem S4x256x256 .f32} {harg21 : arg21.IsWhole}
variable {arg22 : Memref sig .tc .vmem S8x128x128 .f32} {harg22 : arg22.IsWhole}
variable {arg23 : Memref sig .tc .vmem S2x512x128 .f32} {harg23 : arg23.IsWhole}
variable {X1 : Vec F S512x2048 .f32}
variable {X2 : Vec F S1x2048 .f32}
variable {X3 : Vec F S512x256 .f32}
variable {X5 : Vec F S1x256 .f32}
variable {X7 : Vec F S1x8x2048x256 .bf16}
variable {X8 : Vec F S16x5632 .f32}
variable {X9 : Vec F S16x5632 .f32}
variable {X10 : Vec F S64x2048 .f32}
variable {X11 : Vec F S16x2048 .f32}
variable (r1 : ∀ t, RdAs (Ix := Unit) (Name := ℕ) (U := UR sig nD τ) (Lvl := ℕ) (c : Thread nD τ) (G t) arg1 X1)
variable (r2 : ∀ t, RdAs (Ix := Unit) (Name := ℕ) (U := UR sig nD τ) (Lvl := ℕ) (c : Thread nD τ) (G t) arg2 X2)
variable (r3 : ∀ t, RdAs (Ix := Unit) (Name := ℕ) (U := UR sig nD τ) (Lvl := ℕ) (c : Thread nD τ) (G t) arg3 X3)
variable (r5 : ∀ t, RdAs (Ix := Unit) (Name := ℕ) (U := UR sig nD τ) (Lvl := ℕ) (c : Thread nD τ) (G t) arg5 X5)
variable (r7 : ∀ t, RdAs (Ix := Unit) (Name := ℕ) (U := UR sig nD τ) (Lvl := ℕ) (c : Thread nD τ) (G t) arg7 X7)
variable (r8 : ∀ t, RdAs (Ix := Unit) (Name := ℕ) (U := UR sig nD τ) (Lvl := ℕ) (c : Thread nD τ) (G t) arg8 X8)
variable (r9 : ∀ t, RdAs (Ix := Unit) (Name := ℕ) (U := UR sig nD τ) (Lvl := ℕ) (c : Thread nD τ) (G t) arg9 X9)
variable (r10 : ∀ t, RdAs (Ix := Unit) (Name := ℕ) (U := UR sig nD τ) (Lvl := ℕ) (c : Thread nD τ) (G t) arg10 X10)
variable (r11 : ∀ t, RdAs (Ix := Unit) (Name := ℕ) (U := UR sig nD τ) (Lvl := ℕ) (c : Thread nD τ) (G t) arg11 X11)
variable (r18 : ∀ o w1 w2 w3 w4 h a s, RdAs (Ix := Unit) (Name := ℕ) (U := UR sig nD τ) (Lvl := ℕ) (c : Thread nD τ) (G ⟨o, w1, w2, w3, w4, h, a, s⟩) arg18 h)
variable (r19 : ∀ o w1 w2 w3 w4 h a s, RdAs (Ix := Unit) (Name := ℕ) (U := UR sig nD τ) (Lvl := ℕ) (c : Thread nD τ) (G ⟨o, w1, w2, w3, w4, h, a, s⟩) arg19 a)
variable (r21 : ∀ o w1 w2 w3 w4 h a s, RdAs (Ix := Unit) (Name := ℕ) (U := UR sig nD τ) (Lvl := ℕ) (c : Thread nD τ) (G ⟨o, w1, w2, w3, w4, h, a, s⟩) arg21 s)
variable (wr12 : ∀ o w1 w2 w3 w4 h a s, WrAs (Ix := Unit) (Name := ℕ) (U := UR sig nD τ) (Lvl := ℕ) (c : Thread nD τ) (G ⟨o, w1, w2, w3, w4, h, a, s⟩) arg12 o (fun Y => G ⟨Y, w1, w2, w3, w4, h, a, s⟩))
variable (wr14 : ∀ o w1 w2 w3 w4 h a s, WrAs (Ix := Unit) (Name := ℕ) (U := UR sig nD τ) (Lvl := ℕ) (c : Thread nD τ) (G ⟨o, w1, w2, w3, w4, h, a, s⟩) arg14 w1 (fun Y => G ⟨o, Y, w2, w3, w4, h, a, s⟩))
variable (wr15 : ∀ o w1 w2 w3 w4 h a s, WrAs (Ix := Unit) (Name := ℕ) (U := UR sig nD τ) (Lvl := ℕ) (c : Thread nD τ) (G ⟨o, w1, w2, w3, w4, h, a, s⟩) arg15 w2 (fun Y => G ⟨o, w1, Y, w3, w4, h, a, s⟩))
variable (wr16 : ∀ o w1 w2 w3 w4 h a s, WrAs (Ix := Unit) (Name := ℕ) (U := UR sig nD τ) (Lvl := ℕ) (c : Thread nD τ) (G ⟨o, w1, w2, w3, w4, h, a, s⟩) arg16 w3 (fun Y => G ⟨o, w1, w2, Y, w4, h, a, s⟩))
variable (wr17 : ∀ o w1 w2 w3 w4 h a s, WrAs (Ix := Unit) (Name := ℕ) (U := UR sig nD τ) (Lvl := ℕ) (c : Thread nD τ) (G ⟨o, w1, w2, w3, w4, h, a, s⟩) arg17 w4 (fun Y => G ⟨o, w1, w2, w3, Y, h, a, s⟩))
variable (wr18 : ∀ o w1 w2 w3 w4 h a s, WrAs (Ix := Unit) (Name := ℕ) (U := UR sig nD τ) (Lvl := ℕ) (c : Thread nD τ) (G ⟨o, w1, w2, w3, w4, h, a, s⟩) arg18 h (fun Y => G ⟨o, w1, w2, w3, w4, Y, a, s⟩))
variable (wr19 : ∀ o w1 w2 w3 w4 h a s, WrAs (Ix := Unit) (Name := ℕ) (U := UR sig nD τ) (Lvl := ℕ) (c : Thread nD τ) (G ⟨o, w1, w2, w3, w4, h, a, s⟩) arg19 a (fun Y => G ⟨o, w1, w2, w3, w4, h, Y, s⟩))
variable (wr21 : ∀ o w1 w2 w3 w4 h a s, WrAs (Ix := Unit) (Name := ℕ) (U := UR sig nD τ) (Lvl := ℕ) (c : Thread nD τ) (G ⟨o, w1, w2, w3, w4, h, a, s⟩) arg21 s (fun Y => G ⟨o, w1, w2, w3, w4, h, a, Y⟩))
variable (h1 : ∀ t, Rd (c : Thread nD τ) (G t) arg1)
variable (h2 : ∀ t, Rd (c : Thread nD τ) (G t) arg2)
variable (h3 : ∀ t, Rd (c : Thread nD τ) (G t) arg3)
variable (h4 : ∀ t, Rd (c : Thread nD τ) (G t) arg4)
variable (h5 : ∀ t, Rd (c : Thread nD τ) (G t) arg5)
variable (h6 : ∀ t, Rd (c : Thread nD τ) (G t) arg6)
variable (h7 : ∀ t, Rd (c : Thread nD τ) (G t) arg7)
variable (h8 : ∀ t, Rd (c : Thread nD τ) (G t) arg8)
variable (h9 : ∀ t, Rd (c : Thread nD τ) (G t) arg9)
variable (h10 : ∀ t, Rd (c : Thread nD τ) (G t) arg10)
variable (h11 : ∀ t, Rd (c : Thread nD τ) (G t) arg11)
variable (h12 : ∀ t, Rd (c : Thread nD τ) (G t) arg12)
variable (h13 : ∀ t, Wr (c : Thread nD τ) (G t) arg13)
variable (h14 : ∀ t, Rd (c : Thread nD τ) (G t) arg14)
variable (h15 : ∀ t, Rd (c : Thread nD τ) (G t) arg15)
variable (h16 : ∀ t, Rd (c : Thread nD τ) (G t) arg16)
variable (h17 : ∀ t, Rd (c : Thread nD τ) (G t) arg17)
variable (h18 : ∀ t, Rd (c : Thread nD τ) (G t) arg18)
variable (h19 : ∀ t, Rd (c : Thread nD τ) (G t) arg19)
variable (h20 : ∀ t, Wr (c : Thread nD τ) (G t) arg20)
variable (h21 : ∀ t, Rd (c : Thread nD τ) (G t) arg21)
variable (h22 : ∀ t, Wr (c : Thread nD τ) (G t) arg22)
variable (h23 : ∀ t, Wr (c : Thread nD τ) (G t) arg23)
include r1 r2 r3 r5 r7 r8 r9 r10 r11 r18 r19 r21 wr12 wr14 wr15 wr16 wr17 wr18 wr19 wr21 h1 h2 h3 h4 h5 h6 h7 h8 h9 h10 h11 h12 h13 h14 h15 h16 h17 h18 h19 h20 h21 h22 h23

theorem run_part1 (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) :
    Run (Ix := Unit) (Name := ℕ) (U := UR sig nD τ) (Lvl := ℕ) defs₀ Variants.none E (c : Thread nD τ) G ⟨o, w1, w2, w3, w4, h, a, s⟩ (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
      (fun x t' => x.2.2.1 = cjw i ∧ t' = ⟨o, w1, w2, w3, w4, (if crow i = 1#1 then put h ![0, 0] S512x2048.size (k0_pay4 (ldx X1) (ldg X2)) else h), (if cfirst i = 1#1 then put a ![0, 0, 0, 0] S2x8x512x256.size (k0_pay2 (F := F)) else a), s⟩) := by
  rw [k0_part1_eq_skeleton]; unfold k0_part1_skel
  dsimp only
  refine Run.dite (fun hc => ?_) (fun hc => ?_)
  · rw [if_pos (show cfirst i = 1#1 from hc)]
    refine Run.bind (Run.load (r19 _ _ _ _ _ _ _ _) ?_)
    refine Run.bind (Run.store (wr19 _ _ _ _ _ _ _ _) ?_)
    refine Run.bind (Run.safe (Safe.load (Wr.rd (h20 _))) (fun _ => ?_))
    refine Run.bind (Run.safe (Safe.store (h20 _)) (fun _ => ?_))
    refine Run.dite (fun hc => ?_) (fun hc => ?_)
    · rw [if_pos (show crow i = 1#1 from hc)]
      refine Run.bind (Run.load (r1 _) ?_)
      refine Run.bind (Run.load (r2 _) ?_)
      refine Run.bind (Run.load (r18 _ _ _ _ _ _ _ _) ?_)
      refine Run.bind (Run.store (wr18 _ _ _ _ _ _ _ _) ?_)
      refine Run.pure _ ?_
      exact ⟨rfl, rfl⟩
    · rw [if_neg (show ¬crow i = 1#1 from hc)]
      refine Run.pure _ ?_
      exact ⟨rfl, rfl⟩
  · rw [if_neg (show ¬cfirst i = 1#1 from hc)]
    refine Run.dite (fun hc => ?_) (fun hc => ?_)
    · rw [if_pos (show crow i = 1#1 from hc)]
      refine Run.bind (Run.load (r1 _) ?_)
      refine Run.bind (Run.load (r2 _) ?_)
      refine Run.bind (Run.load (r18 _ _ _ _ _ _ _ _) ?_)
      refine Run.bind (Run.store (wr18 _ _ _ _ _ _ _ _) ?_)
      refine Run.pure _ ?_
      exact ⟨rfl, rfl⟩
    · rw [if_neg (show ¬crow i = 1#1 from hc)]
      refine Run.pure _ ?_
      exact ⟨rfl, rfl⟩

theorem run_part2 (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) (v1 v11 c4_i32_15 v28 v33 v34) :
    Run (Ix := Unit) (Name := ℕ) (U := UR sig nD τ) (Lvl := ℕ) defs₀ Variants.none E (c : Thread nD τ) G ⟨o, w1, w2, w3, w4, h, a, s⟩ (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v11 c4_i32_15 v28 v33 v34)
      (fun x t' => t' = ⟨o, (put w1 ![0, 0] S16x5632.size (k0_pay8 (lda X8))), (put w2 ![0, 0] S16x5632.size (k0_pay9 (lda X9))), (put w3 ![0, 0] S64x2048.size (k0_pay10 (ldb X10))), w4, h, a, (if k0_cond3 i = 1#1 then put s (k0_off1 i) S1x256x256.size (k0_pay5 (F := F)) else s)⟩) := by
  rw [k0_part2_eq_skeleton]; unfold k0_part2_skel
  dsimp only
  refine Run.dite (fun hc => ?_) (fun hc => ?_)
  · rw [if_pos (show k0_cond3 i = 1#1 from hc)]
    refine Run.bind (Run.load (r21 _ _ _ _ _ _ _ _) ?_)
    refine Run.bind (Run.store (wr21 _ _ _ _ _ _ _ _) ?_)
    refine Run.bind (Run.safe (Safe.load (Wr.rd (h22 _))) (fun _ => ?_))
    refine Run.bind (Run.safe (Safe.store (h22 _)) (fun _ => ?_))
    refine Run.bind (Run.safe (Safe.load (Wr.rd (h22 _))) (fun _ => ?_))
    refine Run.bind (Run.safe (Safe.store (h22 _)) (fun _ => ?_))
    refine Run.bind (Run.load (r8 _) ?_)
    refine Run.bind (Run.safe (Safe.load (h14 _)) (fun _ => ?_))
    refine Run.bind (Run.store (wr14 _ _ _ _ _ _ _ _) ?_)
    refine Run.bind (Run.load (r9 _) ?_)
    refine Run.bind (Run.safe (Safe.load (h15 _)) (fun _ => ?_))
    refine Run.bind (Run.store (wr15 _ _ _ _ _ _ _ _) ?_)
    refine Run.bind (Run.load (r10 _) ?_)
    refine Run.bind (Run.safe (Safe.load (h16 _)) (fun _ => ?_))
    refine Run.bind (Run.store (wr16 _ _ _ _ _ _ _ _) ?_)
    refine Run.pure _ ?_
    rfl
  · rw [if_neg (show ¬k0_cond3 i = 1#1 from hc)]
    refine Run.bind (Run.load (r8 _) ?_)
    refine Run.bind (Run.safe (Safe.load (h14 _)) (fun _ => ?_))
    refine Run.bind (Run.store (wr14 _ _ _ _ _ _ _ _) ?_)
    refine Run.bind (Run.load (r9 _) ?_)
    refine Run.bind (Run.safe (Safe.load (h15 _)) (fun _ => ?_))
    refine Run.bind (Run.store (wr15 _ _ _ _ _ _ _ _) ?_)
    refine Run.bind (Run.load (r10 _) ?_)
    refine Run.bind (Run.safe (Safe.load (h16 _)) (fun _ => ?_))
    refine Run.bind (Run.store (wr16 _ _ _ _ _ _ _ _) ?_)
    refine Run.pure _ ?_
    rfl

theorem run_body (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) :
    Run (Ix := Unit) (Name := ℕ) (U := UR sig nD τ) (Lvl := ℕ) defs₀ Variants.none E (c : Thread nD τ) G ⟨o, w1, w2, w3, w4, h, a, s⟩ (cc0_mixer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
      (fun x t' => ∃ u6 u7 u9 u10, t' = after i X1 X2 X3 X5 X7 X8 X9 X10 X11 u6 u7 u9 u10 ⟨o, w1, w2, w3, w4, h, a, s⟩) := by
  rw [cc0_mixer_eq_skeleton]; unfold cc0_mixer_skel
  dsimp only
  refine Run.bind ?_
  rw [k0_part364_eq_skeleton]; unfold k0_part364_skel; try dsimp only
  refine Run.bind ((run_part1 (c := c) (E := E) i r1 r2 r3 r5 r7 r8 r9 r10 r11 r18 r19 r21 wr12 wr14 wr15 wr16 wr17 wr18 wr19 wr21 h1 h2 h3 h4 h5 h6 h7 h8 h9 h10 h11 h12 h13 h14 h15 h16 h17 h18 h19 h20 h21 h22 h23 _ _ _ _ _ _ _ _).conseq ?_)
  rintro ⟨arg0, v1, v11, c4, v28, v33, v34⟩ _ ⟨rfl, rfl⟩
  try dsimp only
  refine Run.bind ((run_part2 (c := c) (E := E) i r1 r2 r3 r5 r7 r8 r9 r10 r11 r18 r19 r21 wr12 wr14 wr15 wr16 wr17 wr18 wr19 wr21 h1 h2 h3 h4 h5 h6 h7 h8 h9 h10 h11 h12 h13 h14 h15 h16 h17 h18 h19 h20 h21 h22 h23 _ _ _ _ _ _ _ _ _ _ _ _ _ _).conseq ?_)
  rintro _ _ rfl
  try dsimp only
  refine Run.bind ?_
  rw [k0_part3_eq_skeleton]; unfold k0_part3_skel; try dsimp only
  refine Run.bind (Run.load (r11 _) ?_)
  refine Run.bind (Run.safe (Safe.load (h17 _)) (fun _ => ?_))
  refine Run.bind (Run.store (wr17 _ _ _ _ _ _ _ _) ?_)
  refine Run.bind (Run.load (r18 _ _ _ _ _ _ _ _) ?_)
  refine Run.bind (Run.load (r3 _) ?_)
  refine Run.bind (Run.load (r3 _) ?_)
  refine Run.pure _ ?_
  try dsimp only
  refine Run.bind (Run.safe (safe1_part4 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _) (fun x => ?_))
  obtain ⟨x0, x1, x2, x3, x4, x5, x6, x7⟩ := x
  try dsimp only
  refine Run.bind (Run.safe (safe1_part5 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3, x4, x5⟩ := x
  try dsimp only
  refine Run.bind (Run.safe (safe1_part6 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  obtain ⟨x0, x1, x2, x3, x4⟩ := x
  try dsimp only
  refine Run.bind (Run.safe (safe1_part7 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind ?_
  rw [k0_part8_eq_skeleton]; unfold k0_part8_skel; try dsimp only
  refine Run.bind (Run.load (RdAs.squeeze (RdAs.slice (r19 _ _ _ _ _ _ _ _) _ _) _) ?_)
  refine Run.bind (Run.load (RdAs.squeeze (RdAs.slice (r19 _ _ _ _ _ _ _ _) _ _) _) ?_)
  refine Run.bind (Run.safe (Safe.load (Wr.rd (h20 _))) (fun _ => ?_))
  refine Run.bind (Run.load (RdAs.squeeze (RdAs.slice (r19 _ _ _ _ _ _ _ _) _ _) _) ?_)
  refine Run.bind (Run.load (RdAs.squeeze (RdAs.slice (r19 _ _ _ _ _ _ _ _) _ _) _) ?_)
  refine Run.pure _ ?_
  try dsimp only
  refine Run.bind ?_
  rw [k0_part9_eq_skeleton]; unfold k0_part9_skel; try dsimp only
  refine Run.bind (Run.load (RdAs.squeeze (RdAs.slice (r19 _ _ _ _ _ _ _ _) _ _) _) ?_)
  refine Run.pure _ ?_
  try dsimp only
  refine Run.bind ?_
  rw [k0_part10_eq_skeleton]; unfold k0_part10_skel; try dsimp only
  refine Run.pure _ ?_
  try dsimp only
  refine Run.bind (Run.safe (safe1_part11 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2, x3, x4, x5⟩ := x
  try dsimp only
  refine Run.bind (Run.safe (safe1_part12 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3, x4, x5, x6, x7⟩ := x
  try dsimp only
  refine Run.bind (Run.safe (safe1_part13 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4, x5⟩ := x
  try dsimp only
  refine Run.bind (Run.safe (safe1_part14 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3⟩ := x
  try dsimp only
  refine Run.bind ?_
  rw [k0_part15_eq_skeleton]; unfold k0_part15_skel; try dsimp only
  refine Run.bind (Run.store (wr19 _ _ _ _ _ _ _ _) ?_)
  refine Run.bind (Run.safe (Safe.load (h4 _)) (fun _ => ?_))
  refine Run.bind (Run.load (RdAs.squeeze (RdAs.slice (r19 _ _ _ _ _ _ _ _) _ _) _) ?_)
  refine Run.bind (Run.store (wr19 _ _ _ _ _ _ _ _) ?_)
  refine Run.pure _ ?_
  try dsimp only
  refine Run.bind (Run.safe (safe1_part16 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _) (fun x => ?_))
  obtain ⟨x0, x1, x2, x3, x4, x5, x6, x7⟩ := x
  try dsimp only
  refine Run.bind (Run.safe (safe1_part17 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2, x3, x4, x5, x6, x7, x8, x9, x10⟩ := x
  try dsimp only
  refine Run.bind (Run.safe (safe1_part18 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _) (fun x => ?_))
  obtain ⟨x0, x1, x2, x3, x4, x5, x6⟩ := x
  try dsimp only
  refine Run.bind (Run.safe (safe1_part19 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part20 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part21 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part22 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  obtain ⟨x0, x1, x2, x3⟩ := x
  try dsimp only
  refine Run.bind (Run.safe (safe1_part23 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part24 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part25 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part26 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part27 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  obtain ⟨x0, x1, x2, x3⟩ := x
  try dsimp only
  refine Run.bind (Run.safe (safe1_part28 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part29 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part30 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part31 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _) (fun x => ?_))
  obtain ⟨x0, x1, x2, x3⟩ := x
  try dsimp only
  refine Run.bind (Run.safe (safe1_part32 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  try dsimp only
  refine Run.bind (Run.safe (safe1_part33 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part34 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part35 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part36 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _) (fun x => ?_))
  obtain ⟨x0, x1, x2, x3, x4, x5, x6, x7, x8⟩ := x
  try dsimp only
  refine Run.bind (Run.safe (safe1_part37 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4, x5, x6, x7, x8, x9⟩ := x
  try dsimp only
  refine Run.bind (Run.safe (safe1_part38 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _) (fun x => ?_))
  obtain ⟨x0, x1, x2, x3, x4, x5⟩ := x
  try dsimp only
  refine Run.bind (Run.safe (safe1_part39 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part40 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part41 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part42 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  obtain ⟨x0, x1, x2⟩ := x
  try dsimp only
  refine Run.bind (Run.safe (safe1_part43 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _) (fun x => ?_))
  obtain ⟨x0, x1⟩ := x
  try dsimp only
  refine Run.bind (Run.safe (safe1_part44 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part45 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part46 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part47 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4, x5⟩ := x
  try dsimp only
  refine Run.bind (Run.safe (safe1_part48 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part49 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part50 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part51 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  obtain ⟨x0, x1, x2, x3⟩ := x
  try dsimp only
  refine Run.bind (Run.safe (safe1_part52 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part53 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part54 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part55 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part56 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _) (fun x => ?_))
  obtain ⟨x0, x1, x2, x3, x4, x5, x6, x7⟩ := x
  try dsimp only
  refine Run.bind (Run.safe (safe1_part57 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3, x4, x5, x6, x7, x8, x9⟩ := x
  try dsimp only
  refine Run.bind (Run.safe (safe1_part58 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _) (fun x => ?_))
  obtain ⟨x0, x1, x2, x3, x4, x5⟩ := x
  try dsimp only
  refine Run.bind (Run.safe (safe1_part59 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part60 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.pure _ ?_
  try dsimp only
  refine Run.bind (Run.safe (safe1_part365 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _) (fun x => ?_))
  obtain ⟨x0, x1, x2, x3, x4, x5, x6, x7, x8, x9, x10, x11, x12, x13, x14, x15, x16, x17, x18, x19, x20, x21, x22, x23, x24, x25, x26, x27, x28, x29, x30, x31, x32, x33, x34⟩ := x
  try dsimp only
  refine Run.bind (Run.safe (safe1_part366 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _) (fun x => ?_))
  obtain ⟨x0, x1, x2, x3, x4, x5, x6, x7, x8, x9, x10, x11, x12, x13, x14, x15, x16, x17, x18, x19, x20, x21, x22, x23, x24, x25, x26, x27, x28, x29, x30, x31, x32, x33, x34⟩ := x
  try dsimp only
  refine Run.bind (Run.safe (safe1_part367 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _) (fun x => ?_))
  obtain ⟨x0, x1, x2, x3, x4, x5, x6, x7, x8, x9, x10, x11, x12, x13, x14, x15, x16, x17, x18, x19, x20, x21, x22, x23, x24, x25, x26, x27, x28, x29, x30, x31, x32, x33, x34, x35⟩ := x
  try dsimp only
  refine Run.bind (Run.safe (safe1_part368 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _) (fun x => ?_))
  obtain ⟨x0, x1, x2, x3, x4, x5, x6, x7, x8, x9, x10, x11, x12, x13, x14, x15, x16, x17, x18, x19, x20, x21, x22, x23, x24, x25, x26, x27, x28, x29, x30, x31, x32, x33, x34⟩ := x
  try dsimp only
  refine Run.bind ?_
  rw [k0_part369_eq_skeleton]; unfold k0_part369_skel; try dsimp only
  refine Run.bind (Run.safe (safe1_part301 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part302 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part303 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part304 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4, x5⟩ := x
  try dsimp only
  refine Run.bind (Run.safe (safe1_part305 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part306 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part307 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part308 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4⟩ := x
  try dsimp only
  refine Run.bind (Run.safe (safe1_part309 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part310 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part311 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part312 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part313 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _) (fun x => ?_))
  obtain ⟨x0, x1, x2⟩ := x
  try dsimp only
  refine Run.bind (Run.safe (safe1_part314 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2⟩ := x
  try dsimp only
  refine Run.bind (Run.safe (safe1_part315 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part316 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part317 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _) (fun x => ?_))
  obtain ⟨x0, x1, x2, x3, x4, x5, x6, x7⟩ := x
  try dsimp only
  refine Run.bind (Run.safe (safe1_part318 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3, x4, x5, x6, x7, x8, x9⟩ := x
  try dsimp only
  refine Run.bind (Run.safe (safe1_part319 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _) (fun x => ?_))
  obtain ⟨x0, x1, x2, x3, x4, x5, x6⟩ := x
  try dsimp only
  refine Run.bind (Run.safe (safe1_part320 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part321 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part322 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part323 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part324 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1, x2, x3, x4⟩ := x
  try dsimp only
  refine Run.bind (Run.safe (safe1_part325 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part326 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part327 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part328 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _) (fun x => ?_))
  obtain ⟨x0, x1, x2, x3, x4, x5⟩ := x
  try dsimp only
  refine Run.bind (Run.safe (safe1_part329 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part330 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  obtain ⟨x0, x1⟩ := x
  try dsimp only
  refine Run.bind (Run.safe (safe1_part331 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part332 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  obtain ⟨x0, x1, x2⟩ := x
  try dsimp only
  refine Run.bind (Run.safe (safe1_part333 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1, x2, x3, x4, x5⟩ := x
  try dsimp only
  refine Run.bind (Run.safe (safe1_part334 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part335 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _) (fun x => ?_))
  try dsimp only
  refine Run.bind (Run.safe (safe1_part336 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _) (fun x => ?_))
  try dsimp only
  refine Run.bind (Run.safe (safe1_part337 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _ _ _ _ _ _ _ _ _ _ _ _ _ _ _ _ _ _) (fun x => ?_))
  obtain ⟨x0, x1, x2, x3, x4, x5, x6, x7, x8, x9, x10, x11, x12, x13⟩ := x
  try dsimp only
  refine Run.bind (Run.safe (safe1_part338 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _ _ _ _ _ _ _ _ _ _ _ _ _ _ _ _ _ _ _ _ _ _ _ _ _ _ _ _ _ _) (fun x => ?_))
  obtain ⟨x0, x1, x2, x3, x4, x5, x6, x7, x8, x9, x10, x11, x12, x13, x14, x15, x16, x17, x18, x19, x20, x21, x22, x23, x24, x25⟩ := x
  try dsimp only
  refine Run.bind ?_
  rw [k0_part339_eq_skeleton]; unfold k0_part339_skel; try dsimp only
  refine Run.pure _ ?_
  try dsimp only
  refine Run.bind ?_
  rw [k0_part340_eq_skeleton]; unfold k0_part340_skel; try dsimp only
  refine Run.bind (Run.load (r7 _) ?_)
  refine Run.bind (Run.load (r7 _) ?_)
  refine Run.bind (Run.load (RdAs.squeeze (RdAs.slice (r19 _ _ _ _ _ _ _ _) _ _) _) ?_)
  refine Run.bind (Run.store (wr19 _ _ _ _ _ _ _ _) ?_)
  refine Run.pure _ ?_
  try dsimp only
  refine Run.bind ?_
  rw [k0_part341_eq_skeleton]; unfold k0_part341_skel; try dsimp only
  refine Run.bind (Run.load (RdAs.squeeze (RdAs.slice (r19 _ _ _ _ _ _ _ _) _ _) _) ?_)
  refine Run.bind (Run.store (wr19 _ _ _ _ _ _ _ _) ?_)
  refine Run.bind (Run.load (RdAs.squeeze (RdAs.slice (r19 _ _ _ _ _ _ _ _) _ _) _) ?_)
  refine Run.bind (Run.safe (Safe.load (Wr.rd (h22 _))) (fun _ => ?_))
  refine Run.pure _ ?_
  try dsimp only
  refine Run.bind (Run.safe (safe1_part342 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _) (fun x => ?_))
  obtain ⟨x0, x1, x2, x3, x4⟩ := x
  try dsimp only
  refine Run.bind (Run.safe (safe1_part343 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _) (fun x => ?_))
  obtain ⟨x0, x1, x2, x3⟩ := x
  try dsimp only
  refine Run.bind (Run.safe (safe1_part344 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _ _ _) (fun x => ?_))
  obtain ⟨x0, x1, x2, x3, x4, x5⟩ := x
  try dsimp only
  refine Run.bind (Run.safe (safe1_part345 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _) (fun x => ?_))
  obtain ⟨x0, x1, x2, x3, x4, x5, x6, x7, x8, x9⟩ := x
  try dsimp only
  refine Run.bind (Run.safe (safe1_part346 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _ _ _ _ _ _ _ _) (fun x => ?_))
  obtain ⟨x0, x1, x2, x3⟩ := x
  try dsimp only
  refine Run.bind (Run.safe (safe1_part347 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _) (fun x => ?_))
  obtain ⟨x0, x1, x2⟩ := x
  try dsimp only
  refine Run.bind (Run.safe (safe1_part348 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  try dsimp only
  refine Run.bind (Run.safe (safe1_part349 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  obtain ⟨x0, x1⟩ := x
  try dsimp only
  refine Run.bind (Run.safe (safe1_part350 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _) (fun x => ?_))
  try dsimp only
  refine Run.bind (Run.safe (safe1_part351 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _ _ _ _ _ _ _) (fun x => ?_))
  obtain ⟨x0, x1, x2, x3, x4, x5, x6, x7, x8, x9, x10⟩ := x
  try dsimp only
  refine Run.bind (Run.safe (safe1_part352 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _) (fun x => ?_))
  obtain ⟨x0, x1, x2⟩ := x
  try dsimp only
  refine Run.bind (Run.safe (safe1_part353 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _) (fun x => ?_))
  obtain ⟨x0, x1, x2, x3, x4⟩ := x
  try dsimp only
  refine Run.bind (Run.safe (safe1_part354 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _) (fun x => ?_))
  obtain ⟨x0, x1⟩ := x
  try dsimp only
  refine Run.bind (Run.safe (safe1_part355 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _) (fun x => ?_))
  obtain ⟨x0, x1, x2, x3, x4, x5, x6⟩ := x
  try dsimp only
  refine Run.bind (Run.safe (safe1_part356 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _ _ _ _ _) (fun x => ?_))
  obtain ⟨x0, x1, x2, x3⟩ := x
  try dsimp only
  refine Run.bind (Run.safe (safe1_part357 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _ _ _ _ _ _ _) (fun x => ?_))
  obtain ⟨x0, x1, x2⟩ := x
  try dsimp only
  refine Run.bind (Run.safe (safe1_part358 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  try dsimp only
  refine Run.bind (Run.safe (safe1_part359 i (h1 _) (h2 _) (h3 _) (h4 _) (h5 _) (h6 _) (h7 _) (h8 _) (h9 _) (h10 _) (h11 _) (h12 _) (h13 _) (h14 _) (h15 _) (h16 _) (h17 _) (h18 _) (h19 _) (h20 _) (h21 _) (h22 _) (h23 _) _ _ _ _ _ _) (fun x => ?_))
  try dsimp only
  refine Run.bind ?_
  rw [k0_part360_eq_skeleton]; unfold k0_part360_skel; try dsimp only
  refine Run.bind (Run.safe (Safe.load (Wr.rd (h13 _))) (fun _ => ?_))
  refine Run.bind (Run.safe (Safe.store (h13 _)) (fun _ => ?_))
  refine Run.bind (Run.safe (Safe.load (Wr.rd (h13 _))) (fun _ => ?_))
  refine Run.bind (Run.safe (Safe.store (h13 _)) (fun _ => ?_))
  refine Run.bind (Run.load (r7 _) ?_)
  refine Run.bind (Run.load (r7 _) ?_)
  refine Run.pure _ ?_
  try dsimp only
  refine Run.pure _ ?_
  try dsimp only
  refine Run.bind ?_
  rw [k0_part361_eq_skeleton]; unfold k0_part361_skel; try dsimp only
  refine Run.bind (Run.load (RdAs.squeeze (RdAs.slice (r19 _ _ _ _ _ _ _ _) _ _) _) ?_)
  refine Run.bind (Run.store (wr19 _ _ _ _ _ _ _ _) ?_)
  refine Run.bind (Run.load (RdAs.squeeze (RdAs.slice (r19 _ _ _ _ _ _ _ _) _ _) _) ?_)
  refine Run.bind (Run.store (wr19 _ _ _ _ _ _ _ _) ?_)
  refine Run.bind (Run.load (RdAs.squeeze (RdAs.slice (r19 _ _ _ _ _ _ _ _) _ _) _) ?_)
  refine Run.bind (Run.load (r21 _ _ _ _ _ _ _ _) ?_)
  refine Run.pure _ ?_
  try dsimp only
  refine Run.bind ?_
  rw [k0_part362_eq_skeleton]; unfold k0_part362_skel; try dsimp only
  refine Run.bind (Run.load (r21 _ _ _ _ _ _ _ _) ?_)
  refine Run.bind (Run.store (wr21 _ _ _ _ _ _ _ _) ?_)
  refine Run.bind (Run.load (r5 _) ?_)
  refine Run.bind (Run.safe (Safe.load (h12 _)) (fun _ => ?_))
  refine Run.bind (Run.store (wr12 _ _ _ _ _ _ _ _) ?_)
  refine Run.pure _ ?_
  try dsimp only
  refine Run.bind ?_
  rw [k0_part363_eq_skeleton]; unfold k0_part363_skel; try dsimp only
  refine Run.bind (Run.safe (Safe.load (h12 _)) (fun _ => ?_))
  refine Run.bind (Run.store (wr12 _ _ _ _ _ _ _ _) ?_)
  refine Run.bind (Run.load (r7 _) ?_)
  refine Run.bind (Run.load (r7 _) ?_)
  refine Run.bind (Run.load (RdAs.squeeze (RdAs.slice (r19 _ _ _ _ _ _ _ _) _ _) _) ?_)
  refine Run.bind (Run.store (wr19 _ _ _ _ _ _ _ _) ?_)
  refine Run.pure _ ?_
  try dsimp only
  refine Run.bind (Run.load (RdAs.squeeze (RdAs.slice (r19 _ _ _ _ _ _ _ _) _ _) _) ?_)
  refine Run.bind (Run.store (wr19 _ _ _ _ _ _ _ _) ?_)
  refine Run.pure _ ?_
  exact ⟨_, _, _, _, rfl⟩

end Cert.MixerIdeal.Gen
end
-- ==== Proof.MixerIdealNamed.lean ====
/- The mixer's run with its casts named: at every grid point the body leaves the four casts of its side
   blocks. -/
module

public import proofs.«01_k».proof.Proof.MixerIdealRun
public import proofs.«01_k».proof.Proof.Gen.MixerIdeal.Frame
public import Idealize.ShloMosaic.Lib.Claim

@[expose] public section

set_option maxRecDepth 65536
set_option maxHeartbeats 4000000

noncomputable section

namespace Cert.MixerIdeal.Named

open Cert.MixerIdeal Cert.MixerIdeal.Gen
open Idealize.ShloMosaic Idealize.ShloMosaic.TcCoe Idealize.ShloMosaic.Tactic Cert.Safety
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- What is known of the kept buffers before a point: nothing is needed for the casts. -/
def Inv (m : (ℓ : Loc nD τ sig) → Buf (Elt F) ℓ) (c : Dev nD) (n : ℕ) (h : Vec F S512x2048 .bf16) (a : Vec F S2x8x512x256 .bf16) (s : Vec F S4x256x256 .f32) : Prop := True

theorem put_whole {α : Type} {s : Shape} (x : s.Idx → α) (off : Fin s.rank → ℕ) (h0 : ∀ a, off a = 0) (w : s.Idx → α) :
    put x off s.size w = w := by
  funext y
  unfold put
  rw [dif_pos (fun a => ⟨by rw [h0]; exact Nat.zero_le _, by rw [h0, Nat.zero_add]; exact (y a).isLt⟩)]
  exact congrArg w (funext fun a => Fin.ext (by show (y a).val - off a = _; rw [h0]; rfl))

theorem lda_eq (X : Vec F S16x5632 .f32) : lda X = X := funext fun x =>
  congrArg X (Rect.emb_unit_full (s := S16x5632) (off := ![0, 0]) inb_S16x5632_S16x5632_0_0 x)
theorem ldb_eq (X : Vec F S64x2048 .f32) : ldb X = X := funext fun x =>
  congrArg X (Rect.emb_unit_full (s := S64x2048) (off := ![0, 0]) inb_S64x2048_S64x2048_0_0 x)
theorem ldc_eq (X : Vec F S16x2048 .f32) : ldc X = X := funext fun x =>
  congrArg X (Rect.emb_unit_full (s := S16x2048) (off := ![0, 0]) inb_S16x2048_S16x2048_0_0 x)

/-- What the body leaves at a point, from what is known before it. -/
theorem step (c : Dev nD) (t : Fin cfg0.N) (t0 : St F) (hi : Inv m c t.val t0.h t0.a t0.s) (u6 u7 u9 u10) (t1 : St F)
    (h1 : t1 = after (grid0.coords t) (iblk m c 0 t) (iblk m c 1 t) (iblk m c 2 t) (iblk m c 4 t) (iblk m c 6 t) (iblk m c 7 t) (iblk m c 8 t) (iblk m c 9 t) (iblk m c 10 t) u6 u7 u9 u10 t0) :
    Inv m c (t.val + 1) t1.h t1.a t1.s ∧ t1.w1 = k0_pay8 (iblk m c 7 t) ∧ t1.w2 = k0_pay9 (iblk m c 8 t)
      ∧ t1.w3 = k0_pay10 (iblk m c 9 t) ∧ t1.w4 = k0_pay11 (iblk m c 10 t) := by
  subst h1
  refine ⟨trivial, ?_, ?_, ?_, ?_⟩
  · unfold after; dsimp only
    exact (put_whole _ _ (by decide) _).trans (congrArg k0_pay8 (lda_eq _))
  · unfold after; dsimp only
    exact (put_whole _ _ (by decide) _).trans (congrArg k0_pay9 (lda_eq _))
  · unfold after; dsimp only
    exact (put_whole _ _ (by decide) _).trans (congrArg k0_pay10 (ldb_eq _))
  · unfold after; dsimp only
    exact (put_whole _ _ (by decide) _).trans (congrArg k0_pay11 (ldc_eq _))

/-- The call's own buffers before a point, with what is known of them. -/
def PhiN (c : Dev nD) (n : ℕ) : sProp (MT nD τ sig Unit (Elt F) ℕ (UR sig nD τ) ℕ) :=
  iprop(∃ (h : Vec F S512x2048 .bf16) (a : Vec F S2x8x512x256 .bf16) (s : Vec F S4x256x256 .f32), ⌜Inv m c n h a s⌝ ∗ ((owns (c : Thread nD τ) (Memref.whole cc0_scratch0) fullShare (h) ∗ owns (c : Thread nD τ) (Memref.whole cc0_scratch1) fullShare (a) ∗ (∃ d, owns (c : Thread nD τ) (Memref.whole cc0_scratch2) fullShare (d)) ∗ owns (c : Thread nD τ) (Memref.whole cc0_scratch3) fullShare (s) ∗ (∃ d, owns (c : Thread nD τ) (Memref.whole cc0_scratch4) fullShare (d)) ∗ (∃ d, owns (c : Thread nD τ) (Memref.whole cc0_scratch5) fullShare (d))) ∗ (∃ r, prngReg c r)))

/-- The windows whose contents are not followed. -/
def forgets0 : Fin 17 → Bool := fun w => w.val == 11 || w.val == 12

/-- What the pipeline holds: the arrays as the call finds them and each window's buffer after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, _⟩ => k0_pay8 (iblk m c 7 t)
    | ⟨14, _⟩ => k0_pay9 (iblk m c 8 t)
    | ⟨15, _⟩ => k0_pay10 (iblk m c 9 t)
    | ⟨16, _⟩ => k0_pay11 (iblk m c 10 t)
    | ⟨_ + 17, h⟩ => absurd (show _ + 17 < 17 from h) (Nat.not_lt.2 (Nat.le_add_left _ _))
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_13 (c : Dev nD) (t : Fin cfg0.N) : (dats m 0 c).after 13 t = k0_pay8 (iblk m c 7 t) := by dsimp only [dats]
theorem after0_14 (c : Dev nD) (t : Fin cfg0.N) : (dats m 0 c).after 14 t = k0_pay9 (iblk m c 8 t) := by dsimp only [dats]
theorem after0_15 (c : Dev nD) (t : Fin cfg0.N) : (dats m 0 c).after 15 t = k0_pay10 (iblk m c 9 t) := by dsimp only [dats]
theorem after0_16 (c : Dev nD) (t : Fin cfg0.N) : (dats m 0 c).after 16 t = k0_pay11 (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_4 (t : Fin cfg0.N) : cfg0.idle 4 (grid0.coords t) = false := rfl
theorem live0_5 (t : Fin cfg0.N) : cfg0.idle 5 (grid0.coords t) = false := rfl
theorem live0_6 (t : Fin cfg0.N) : cfg0.idle 6 (grid0.coords t) = false := rfl
theorem live0_7 (t : Fin cfg0.N) : cfg0.idle 7 (grid0.coords t) = false := rfl
theorem live0_8 (t : Fin cfg0.N) : cfg0.idle 8 (grid0.coords t) = false := rfl
theorem live0_9 (t : Fin cfg0.N) : cfg0.idle 9 (grid0.coords t) = false := rfl
theorem live0_10 (t : Fin cfg0.N) : cfg0.idle 10 (grid0.coords t) = false := rfl
theorem live0_13 (t : Fin cfg0.N) : cfg0.idle 13 (grid0.coords t) = false := rfl
theorem live0_14 (t : Fin cfg0.N) : cfg0.idle 14 (grid0.coords t) = false := rfl
theorem live0_15 (t : Fin cfg0.N) : cfg0.idle 15 (grid0.coords t) = false := rfl
theorem live0_16 (t : Fin cfg0.N) : cfg0.idle 16 (grid0.coords t) = false := rfl

theorem leaves0_0 (c : Dev nD) (t : Fin cfg0.N) : ((dats m 0 c).leavesExact 0 t : sProp (MT nD τ sig Unit (Elt F) ℕ (UR sig nD τ) ℕ))
    = owns (c : Thread nD τ) (win0_0.stage (cfg0.slots t 0)) fullShare (iblk m c 0 t) := by
  unfold Dat.leavesExact; rw [live0_0 t, after0_0]
theorem leaves0_1 (c : Dev nD) (t : Fin cfg0.N) : ((dats m 0 c).leavesExact 1 t : sProp (MT nD τ sig Unit (Elt F) ℕ (UR sig nD τ) ℕ))
    = owns (c : Thread nD τ) (win0_1.stage (cfg0.slots t 1)) fullShare (iblk m c 1 t) := by
  unfold Dat.leavesExact; rw [live0_1 t, after0_1]
theorem leaves0_2 (c : Dev nD) (t : Fin cfg0.N) : ((dats m 0 c).leavesExact 2 t : sProp (MT nD τ sig Unit (Elt F) ℕ (UR sig nD τ) ℕ))
    = owns (c : Thread nD τ) (win0_2.stage (cfg0.slots t 2)) fullShare (iblk m c 2 t) := by
  unfold Dat.leavesExact; rw [live0_2 t, after0_2]
theorem leaves0_3 (c : Dev nD) (t : Fin cfg0.N) : ((dats m 0 c).leavesExact 3 t : sProp (MT nD τ sig Unit (Elt F) ℕ (UR sig nD τ) ℕ))
    = owns (c : Thread nD τ) (win0_3.stage (cfg0.slots t 3)) fullShare (iblk m c 3 t) := by
  unfold Dat.leavesExact; rw [live0_3 t, after0_3]
theorem leaves0_4 (c : Dev nD) (t : Fin cfg0.N) : ((dats m 0 c).leavesExact 4 t : sProp (MT nD τ sig Unit (Elt F) ℕ (UR sig nD τ) ℕ))
    = owns (c : Thread nD τ) (win0_4.stage (cfg0.slots t 4)) fullShare (iblk m c 4 t) := by
  unfold Dat.leavesExact; rw [live0_4 t, after0_4]
theorem leaves0_5 (c : Dev nD) (t : Fin cfg0.N) : ((dats m 0 c).leavesExact 5 t : sProp (MT nD τ sig Unit (Elt F) ℕ (UR sig nD τ) ℕ))
    = owns (c : Thread nD τ) (win0_5.stage (cfg0.slots t 5)) fullShare (iblk m c 5 t) := by
  unfold Dat.leavesExact; rw [live0_5 t, after0_5]
theorem leaves0_6 (c : Dev nD) (t : Fin cfg0.N) : ((dats m 0 c).leavesExact 6 t : sProp (MT nD τ sig Unit (Elt F) ℕ (UR sig nD τ) ℕ))
    = owns (c : Thread nD τ) (win0_6.stage (cfg0.slots t 6)) fullShare (iblk m c 6 t) := by
  unfold Dat.leavesExact; rw [live0_6 t, after0_6]
theorem leaves0_7 (c : Dev nD) (t : Fin cfg0.N) : ((dats m 0 c).leavesExact 7 t : sProp (MT nD τ sig Unit (Elt F) ℕ (UR sig nD τ) ℕ))
    = owns (c : Thread nD τ) (win0_7.stage (cfg0.slots t 7)) fullShare (iblk m c 7 t) := by
  unfold Dat.leavesExact; rw [live0_7 t, after0_7]
theorem leaves0_8 (c : Dev nD) (t : Fin cfg0.N) : ((dats m 0 c).leavesExact 8 t : sProp (MT nD τ sig Unit (Elt F) ℕ (UR sig nD τ) ℕ))
    = owns (c : Thread nD τ) (win0_8.stage (cfg0.slots t 8)) fullShare (iblk m c 8 t) := by
  unfold Dat.leavesExact; rw [live0_8 t, after0_8]
theorem leaves0_9 (c : Dev nD) (t : Fin cfg0.N) : ((dats m 0 c).leavesExact 9 t : sProp (MT nD τ sig Unit (Elt F) ℕ (UR sig nD τ) ℕ))
    = owns (c : Thread nD τ) (win0_9.stage (cfg0.slots t 9)) fullShare (iblk m c 9 t) := by
  unfold Dat.leavesExact; rw [live0_9 t, after0_9]
theorem leaves0_10 (c : Dev nD) (t : Fin cfg0.N) : ((dats m 0 c).leavesExact 10 t : sProp (MT nD τ sig Unit (Elt F) ℕ (UR sig nD τ) ℕ))
    = owns (c : Thread nD τ) (win0_10.stage (cfg0.slots t 10)) fullShare (iblk m c 10 t) := by
  unfold Dat.leavesExact; rw [live0_10 t, after0_10]
theorem leaves0_13 (c : Dev nD) (t : Fin cfg0.N) : ((dats m 0 c).leavesExact 13 t : sProp (MT nD τ sig Unit (Elt F) ℕ (UR sig nD τ) ℕ))
    = owns (c : Thread nD τ) (win0_13.stage (cfg0.slots t 13)) fullShare (k0_pay8 (iblk m c 7 t)) := by
  unfold Dat.leavesExact; rw [live0_13 t, after0_13]
theorem leaves0_14 (c : Dev nD) (t : Fin cfg0.N) : ((dats m 0 c).leavesExact 14 t : sProp (MT nD τ sig Unit (Elt F) ℕ (UR sig nD τ) ℕ))
    = owns (c : Thread nD τ) (win0_14.stage (cfg0.slots t 14)) fullShare (k0_pay9 (iblk m c 8 t)) := by
  unfold Dat.leavesExact; rw [live0_14 t, after0_14]
theorem leaves0_15 (c : Dev nD) (t : Fin cfg0.N) : ((dats m 0 c).leavesExact 15 t : sProp (MT nD τ sig Unit (Elt F) ℕ (UR sig nD τ) ℕ))
    = owns (c : Thread nD τ) (win0_15.stage (cfg0.slots t 15)) fullShare (k0_pay10 (iblk m c 9 t)) := by
  unfold Dat.leavesExact; rw [live0_15 t, after0_15]
theorem leaves0_16 (c : Dev nD) (t : Fin cfg0.N) : ((dats m 0 c).leavesExact 16 t : sProp (MT nD τ sig Unit (Elt F) ℕ (UR sig nD τ) ℕ))
    = owns (c : Thread nD τ) (win0_16.stage (cfg0.slots t 16)) fullShare (k0_pay11 (iblk m c 10 t)) := by
  unfold Dat.leavesExact; rw [live0_16 t, after0_16]

/-- The call's own buffers, as memrefs owned at some contents. -/
theorem PhiA0_eq (c : Dev nD) : (Pipeline.ΦA spec0 c : sProp (MT nD τ sig Unit (Elt F) ℕ (UR sig nD τ) ℕ))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The kept buffers at any contents satisfy what is known at the start. -/
theorem hin (c : Dev nD) : (Pipeline.ΦA spec0 c : sProp (MT nD τ sig Unit (Elt F) ℕ (UR sig nD τ) ℕ)) ⊢ (dats m 0 c).Φ 0 := by
  rw [PhiA0_eq, show (dats m 0 c).Φ 0 = PhiN m c 0 from rfl]
  unfold PhiN
  iintro ⟨⟨⟨%h, H0⟩, ⟨%a, H1⟩, H2, ⟨%s, H3⟩, H4, H5⟩, Hr⟩
  iexists h, a, s
  isplitr; · ipureintro; exact trivial
  isplitr [Hr]
  · isplitl [H0]; · iexact H0
    isplitl [H1]; · iexact H1
    isplitl [H2]; · iexact H2
    isplitl [H3]; · iexact H3
    isplitl [H4]; · iexact H4
    iexact H5
  iexact Hr

/-- What is known at the end can be forgotten. -/
theorem hout (c : Dev nD) : (dats m 0 c).Φ (Fin.last cfg0.N) ⊢ (Pipeline.ΦA spec0 c : sProp (MT nD τ sig Unit (Elt F) ℕ (UR sig nD τ) ℕ)) := by
  rw [PhiA0_eq, show (dats m 0 c).Φ (Fin.last cfg0.N) = PhiN m c cfg0.N from rfl]
  unfold PhiN
  iintro ⟨%h, %a, %s, %hi, ⟨H0, H1, H2, H3, H4, H5⟩, Hr⟩
  isplitr [Hr]
  · isplitl [H0]; · iexists h; iexact H0
    isplitl [H1]; · iexists a; iexact H1
    isplitl [H2]; · iexact H2
    isplitl [H3]; · iexists s; iexact H3
    isplitl [H4]; · iexact H4
    iexact H5
  iexact Hr

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗
    (∃ d, owns (c : Thread nD τ) (win0_0.stage (cfg0.slots t 0)) fullShare ((dats m 0 c).before 0 t d)) ∗
    (∃ d, owns (c : Thread nD τ) (win0_1.stage (cfg0.slots t 1)) fullShare ((dats m 0 c).before 1 t d)) ∗
    (∃ d, owns (c : Thread nD τ) (win0_2.stage (cfg0.slots t 2)) fullShare ((dats m 0 c).before 2 t d)) ∗
    (∃ d, owns (c : Thread nD τ) (win0_3.stage (cfg0.slots t 3)) fullShare ((dats m 0 c).before 3 t d)) ∗
    (∃ d, owns (c : Thread nD τ) (win0_4.stage (cfg0.slots t 4)) fullShare ((dats m 0 c).before 4 t d)) ∗
    (∃ d, owns (c : Thread nD τ) (win0_5.stage (cfg0.slots t 5)) fullShare ((dats m 0 c).before 5 t d)) ∗
    (∃ d, owns (c : Thread nD τ) (win0_6.stage (cfg0.slots t 6)) fullShare ((dats m 0 c).before 6 t d)) ∗
    (∃ d, owns (c : Thread nD τ) (win0_7.stage (cfg0.slots t 7)) fullShare ((dats m 0 c).before 7 t d)) ∗
    (∃ d, owns (c : Thread nD τ) (win0_8.stage (cfg0.slots t 8)) fullShare ((dats m 0 c).before 8 t d)) ∗
    (∃ d, owns (c : Thread nD τ) (win0_9.stage (cfg0.slots t 9)) fullShare ((dats m 0 c).before 9 t d)) ∗
    (∃ d, owns (c : Thread nD τ) (win0_10.stage (cfg0.slots t 10)) fullShare ((dats m 0 c).before 10 t d)) ∗
    (∃ d, owns (c : Thread nD τ) (win0_11.stage (cfg0.slots t 11)) fullShare (d)) ∗
    (∃ d, owns (c : Thread nD τ) (win0_12.stage (cfg0.slots t 12)) fullShare (d)) ∗
    (∃ d, owns (c : Thread nD τ) (win0_13.stage (cfg0.slots t 13)) fullShare ((dats m 0 c).before 13 t d)) ∗
    (∃ d, owns (c : Thread nD τ) (win0_14.stage (cfg0.slots t 14)) fullShare ((dats m 0 c).before 14 t d)) ∗
    (∃ d, owns (c : Thread nD τ) (win0_15.stage (cfg0.slots t 15)) fullShare ((dats m 0 c).before 15 t d)) ∗
    (∃ d, owns (c : Thread nD τ) (win0_16.stage (cfg0.slots t 16)) fullShare ((dats m 0 c).before 16 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ ∗
    (dats m 0 c).leavesExact 0 t ∗
    (dats m 0 c).leavesExact 1 t ∗
    (dats m 0 c).leavesExact 2 t ∗
    (dats m 0 c).leavesExact 3 t ∗
    (dats m 0 c).leavesExact 4 t ∗
    (dats m 0 c).leavesExact 5 t ∗
    (dats m 0 c).leavesExact 6 t ∗
    (dats m 0 c).leavesExact 7 t ∗
    (dats m 0 c).leavesExact 8 t ∗
    (dats m 0 c).leavesExact 9 t ∗
    (dats m 0 c).leavesExact 10 t ∗
    (∃ d, owns (c : Thread nD τ) (win0_11.stage (cfg0.slots t 11)) fullShare (d)) ∗
    (∃ d, owns (c : Thread nD τ) (win0_12.stage (cfg0.slots t 12)) fullShare (d)) ∗
    (dats m 0 c).leavesExact 13 t ∗
    (dats m 0 c).leavesExact 14 t ∗
    (dats m 0 c).leavesExact 15 t ∗
    (dats m 0 c).leavesExact 16 t)

/-- What it holds. -/
def held (c : Dev nD) (t : Fin cfg0.N) (t0 : St F) : sProp (MT nD τ sig Unit (Elt F) ℕ (UR sig nD τ) ℕ) :=
  iprop(((owns (c : Thread nD τ) (Memref.whole cc0_scratch0) fullShare (t0.h) ∗ owns (c : Thread nD τ) (Memref.whole cc0_scratch1) fullShare (t0.a) ∗ (∃ d, owns (c : Thread nD τ) (Memref.whole cc0_scratch2) fullShare (d)) ∗ owns (c : Thread nD τ) (Memref.whole cc0_scratch3) fullShare (t0.s) ∗ (∃ d, owns (c : Thread nD τ) (Memref.whole cc0_scratch4) fullShare (d)) ∗ (∃ d, owns (c : Thread nD τ) (Memref.whole cc0_scratch5) fullShare (d))) ∗ (∃ r, prngReg c r)) ∗ (dats m 0 c).owesAt () t.castSucc ∗
    owns (c : Thread nD τ) (win0_0.stage (cfg0.slots t 0)) fullShare (iblk m c 0 t) ∗
    owns (c : Thread nD τ) (win0_1.stage (cfg0.slots t 1)) fullShare (iblk m c 1 t) ∗
    owns (c : Thread nD τ) (win0_2.stage (cfg0.slots t 2)) fullShare (iblk m c 2 t) ∗
    owns (c : Thread nD τ) (win0_3.stage (cfg0.slots t 3)) fullShare (iblk m c 3 t) ∗
    owns (c : Thread nD τ) (win0_4.stage (cfg0.slots t 4)) fullShare (iblk m c 4 t) ∗
    owns (c : Thread nD τ) (win0_5.stage (cfg0.slots t 5)) fullShare (iblk m c 5 t) ∗
    owns (c : Thread nD τ) (win0_6.stage (cfg0.slots t 6)) fullShare (iblk m c 6 t) ∗
    owns (c : Thread nD τ) (win0_7.stage (cfg0.slots t 7)) fullShare (iblk m c 7 t) ∗
    owns (c : Thread nD τ) (win0_8.stage (cfg0.slots t 8)) fullShare (iblk m c 8 t) ∗
    owns (c : Thread nD τ) (win0_9.stage (cfg0.slots t 9)) fullShare (iblk m c 9 t) ∗
    owns (c : Thread nD τ) (win0_10.stage (cfg0.slots t 10)) fullShare (iblk m c 10 t) ∗
    owns (c : Thread nD τ) (win0_11.stage (cfg0.slots t 11)) fullShare (t0.o) ∗
    (∃ d, owns (c : Thread nD τ) (win0_12.stage (cfg0.slots t 12)) fullShare (d)) ∗
    owns (c : Thread nD τ) (win0_13.stage (cfg0.slots t 13)) fullShare (t0.w1) ∗
    owns (c : Thread nD τ) (win0_14.stage (cfg0.slots t 14)) fullShare (t0.w2) ∗
    owns (c : Thread nD τ) (win0_15.stage (cfg0.slots t 15)) fullShare (t0.w3) ∗
    owns (c : Thread nD τ) (win0_16.stage (cfg0.slots t 16)) fullShare (t0.w4))

theorem held_rd1 (c : Dev nD) (t : Fin cfg0.N) (t0 : St F) : RdAs (Ix := Unit) (Name := ℕ) (U := UR sig nD τ) (Lvl := ℕ) (c : Thread nD τ) (held m c t t0) (win0_0.stage (cfg0.slots t 0)) (iblk m c 0 t) := by
  unfold held
  exact RdAs.right (RdAs.right (RdAs.left RdAs.owns))

theorem held_rd2 (c : Dev nD) (t : Fin cfg0.N) (t0 : St F) : RdAs (Ix := Unit) (Name := ℕ) (U := UR sig nD τ) (Lvl := ℕ) (c : Thread nD τ) (held m c t t0) (win0_1.stage (cfg0.slots t 1)) (iblk m c 1 t) := by
  unfold held
  exact RdAs.right (RdAs.right (RdAs.right (RdAs.left RdAs.owns)))

theorem held_rd3 (c : Dev nD) (t : Fin cfg0.N) (t0 : St F) : RdAs (Ix := Unit) (Name := ℕ) (U := UR sig nD τ) (Lvl := ℕ) (c : Thread nD τ) (held m c t t0) (win0_2.stage (cfg0.slots t 2)) (iblk m c 2 t) := by
  unfold held
  exact RdAs.right (RdAs.right (RdAs.right (RdAs.right (RdAs.left RdAs.owns))))

theorem held_rd5 (c : Dev nD) (t : Fin cfg0.N) (t0 : St F) : RdAs (Ix := Unit) (Name := ℕ) (U := UR sig nD τ) (Lvl := ℕ) (c : Thread nD τ) (held m c t t0) (win0_4.stage (cfg0.slots t 4)) (iblk m c 4 t) := by
  unfold held
  exact RdAs.right (RdAs.right (RdAs.right (RdAs.right (RdAs.right (RdAs.right (RdAs.left RdAs.owns))))))

theorem held_rd7 (c : Dev nD) (t : Fin cfg0.N) (t0 : St F) : RdAs (Ix := Unit) (Name := ℕ) (U := UR sig nD τ) (Lvl := ℕ) (c : Thread nD τ) (held m c t t0) (win0_6.stage (cfg0.slots t 6)) (iblk m c 6 t) := by
  unfold held
  exact RdAs.right (RdAs.right (RdAs.right (RdAs.right (RdAs.right (RdAs.right (RdAs.right (RdAs.right (RdAs.left RdAs.owns))))))))

theorem held_rd8 (c : Dev nD) (t : Fin cfg0.N) (t0 : St F) : RdAs (Ix := Unit) (Name := ℕ) (U := UR sig nD τ) (Lvl := ℕ) (c : Thread nD τ) (held m c t t0) (win0_7.stage (cfg0.slots t 7)) (iblk m c 7 t) := by
  unfold held
  exact RdAs.right (RdAs.right (RdAs.right (RdAs.right (RdAs.right (RdAs.right (RdAs.right (RdAs.right (RdAs.right (RdAs.left RdAs.owns)))))))))

theorem held_rd9 (c : Dev nD) (t : Fin cfg0.N) (t0 : St F) : RdAs (Ix := Unit) (Name := ℕ) (U := UR sig nD τ) (Lvl := ℕ) (c : Thread nD τ) (held m c t t0) (win0_8.stage (cfg0.slots t 8)) (iblk m c 8 t) := by
  unfold held
  exact RdAs.right (RdAs.right (RdAs.right (RdAs.right (RdAs.right (RdAs.right (RdAs.right (RdAs.right (RdAs.right (RdAs.right (RdAs.left RdAs.owns))))))))))

theorem held_rd10 (c : Dev nD) (t : Fin cfg0.N) (t0 : St F) : RdAs (Ix := Unit) (Name := ℕ) (U := UR sig nD τ) (Lvl := ℕ) (c : Thread nD τ) (held m c t t0) (win0_9.stage (cfg0.slots t 9)) (iblk m c 9 t) := by
  unfold held
  exact RdAs.right (RdAs.right (RdAs.right (RdAs.right (RdAs.right (RdAs.right (RdAs.right (RdAs.right (RdAs.right (RdAs.right (RdAs.right (RdAs.left RdAs.owns)))))))))))

theorem held_rd11 (c : Dev nD) (t : Fin cfg0.N) (t0 : St F) : RdAs (Ix := Unit) (Name := ℕ) (U := UR sig nD τ) (Lvl := ℕ) (c : Thread nD τ) (held m c t t0) (win0_10.stage (cfg0.slots t 10)) (iblk m c 10 t) := by
  unfold held
  exact RdAs.right (RdAs.right (RdAs.right (RdAs.right (RdAs.right (RdAs.right (RdAs.right (RdAs.right (RdAs.right (RdAs.right (RdAs.right (RdAs.right (RdAs.left RdAs.owns))))))))))))

theorem held_rd18 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : RdAs (Ix := Unit) (Name := ℕ) (U := UR sig nD τ) (Lvl := ℕ) (c : Thread nD τ) (held m c t ⟨o, w1, w2, w3, w4, h, a, s⟩) (Memref.whole cc0_scratch0) h := by
  unfold held
  exact RdAs.left (RdAs.left (RdAs.left RdAs.owns))

theorem held_rd19 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : RdAs (Ix := Unit) (Name := ℕ) (U := UR sig nD τ) (Lvl := ℕ) (c : Thread nD τ) (held m c t ⟨o, w1, w2, w3, w4, h, a, s⟩) (Memref.whole cc0_scratch1) a := by
  unfold held
  exact RdAs.left (RdAs.left (RdAs.right (RdAs.left RdAs.owns)))

theorem held_rd21 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : RdAs (Ix := Unit) (Name := ℕ) (U := UR sig nD τ) (Lvl := ℕ) (c : Thread nD τ) (held m c t ⟨o, w1, w2, w3, w4, h, a, s⟩) (Memref.whole cc0_scratch3) s := by
  unfold held
  exact RdAs.left (RdAs.left (RdAs.right (RdAs.right (RdAs.right (RdAs.left RdAs.owns)))))

theorem held_wr12 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (win0_11.stage (cfg0.slots t 11)) o (fun Y => held m c t ⟨Y, w1, w2, w3, w4, h, a, s⟩) := by
  unfold held
  exact WrAs.right (WrAs.right (WrAs.right (WrAs.right (WrAs.right (WrAs.right (WrAs.right (WrAs.right (WrAs.right (WrAs.right (WrAs.right (WrAs.right (WrAs.right (WrAs.left WrAs.owns)))))))))))))

theorem held_wr14 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (win0_13.stage (cfg0.slots t 13)) w1 (fun Y => held m c t ⟨o, Y, w2, w3, w4, h, a, s⟩) := by
  unfold held
  exact WrAs.right (WrAs.right (WrAs.right (WrAs.right (WrAs.right (WrAs.right (WrAs.right (WrAs.right (WrAs.right (WrAs.right (WrAs.right (WrAs.right (WrAs.right (WrAs.right (WrAs.right (WrAs.left WrAs.owns)))))))))))))))

theorem held_wr15 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (win0_14.stage (cfg0.slots t 14)) w2 (fun Y => held m c t ⟨o, w1, Y, w3, w4, h, a, s⟩) := by
  unfold held
  exact WrAs.right (WrAs.right (WrAs.right (WrAs.right (WrAs.right (WrAs.right (WrAs.right (WrAs.right (WrAs.right (WrAs.right (WrAs.right (WrAs.right (WrAs.right (WrAs.right (WrAs.right (WrAs.right (WrAs.left WrAs.owns))))))))))))))))

theorem held_wr16 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (win0_15.stage (cfg0.slots t 15)) w3 (fun Y => held m c t ⟨o, w1, w2, Y, w4, h, a, s⟩) := by
  unfold held
  exact WrAs.right (WrAs.right (WrAs.right (WrAs.right (WrAs.right (WrAs.right (WrAs.right (WrAs.right (WrAs.right (WrAs.right (WrAs.right (WrAs.right (WrAs.right (WrAs.right (WrAs.right (WrAs.right (WrAs.right (WrAs.left WrAs.owns)))))))))))))))))

theorem held_wr17 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (win0_16.stage (cfg0.slots t 16)) w4 (fun Y => held m c t ⟨o, w1, w2, w3, Y, h, a, s⟩) := by
  unfold held
  exact WrAs.right (WrAs.right (WrAs.right (WrAs.right (WrAs.right (WrAs.right (WrAs.right (WrAs.right (WrAs.right (WrAs.right (WrAs.right (WrAs.right (WrAs.right (WrAs.right (WrAs.right (WrAs.right (WrAs.right (WrAs.right (WrAs.owns))))))))))))))))))

theorem held_wr18 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (Memref.whole cc0_scratch0) h (fun Y => held m c t ⟨o, w1, w2, w3, w4, Y, a, s⟩) := by
  unfold held
  exact WrAs.left (WrAs.left (WrAs.left WrAs.owns))

theorem held_wr19 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (Memref.whole cc0_scratch1) a (fun Y => held m c t ⟨o, w1, w2, w3, w4, h, Y, s⟩) := by
  unfold held
  exact WrAs.left (WrAs.left (WrAs.right (WrAs.left WrAs.owns)))

theorem held_wr21 (c : Dev nD) (t : Fin cfg0.N) (o : Vec F S512x256 .bf16) (w1 : Vec F S16x5632 .bf16) (w2 : Vec F S16x5632 .bf16) (w3 : Vec F S64x2048 .bf16) (w4 : Vec F S16x2048 .bf16) (h : Vec F S512x2048 .bf16) (a : Vec F S2x8x512x256 .bf16) (s : Vec F S4x256x256 .f32) : WrAs (Ix := Unit) (Name := ℕ) (U := UR sig nD τ) (Lvl := ℕ) (c : Thread nD τ) (held m c t ⟨o, w1, w2, w3, w4, h, a, s⟩) (Memref.whole cc0_scratch3) s (fun Y => held m c t ⟨o, w1, w2, w3, w4, h, a, Y⟩) := by
  unfold held
  exact WrAs.left (WrAs.left (WrAs.right (WrAs.right (WrAs.right (WrAs.left WrAs.owns)))))

theorem held_at1 (c : Dev nD) (t : Fin cfg0.N) (t0 : St F) : Rd (Ix := Unit) (Name := ℕ) (U := UR sig nD τ) (Lvl := ℕ) (c : Thread nD τ) (held m c t t0) (win0_0.stage (cfg0.slots t 0)) := by
  unfold held
  exact Rd.right (Rd.right (Rd.left Rd.owns))

theorem held_at2 (c : Dev nD) (t : Fin cfg0.N) (t0 : St F) : Rd (Ix := Unit) (Name := ℕ) (U := UR sig nD τ) (Lvl := ℕ) (c : Thread nD τ) (held m c t t0) (win0_1.stage (cfg0.slots t 1)) := by
  unfold held
  exact Rd.right (Rd.right (Rd.right (Rd.left Rd.owns)))

theorem held_at3 (c : Dev nD) (t : Fin cfg0.N) (t0 : St F) : Rd (Ix := Unit) (Name := ℕ) (U := UR sig nD τ) (Lvl := ℕ) (c : Thread nD τ) (held m c t t0) (win0_2.stage (cfg0.slots t 2)) := by
  unfold held
  exact Rd.right (Rd.right (Rd.right (Rd.right (Rd.left Rd.owns))))

theorem held_at4 (c : Dev nD) (t : Fin cfg0.N) (t0 : St F) : Rd (Ix := Unit) (Name := ℕ) (U := UR sig nD τ) (Lvl := ℕ) (c : Thread nD τ) (held m c t t0) (win0_3.stage (cfg0.slots t 3)) := by
  unfold held
  exact Rd.right (Rd.right (Rd.right (Rd.right (Rd.right (Rd.left Rd.owns)))))

theorem held_at5 (c : Dev nD) (t : Fin cfg0.N) (t0 : St F) : Rd (Ix := Unit) (Name := ℕ) (U := UR sig nD τ) (Lvl := ℕ) (c : Thread nD τ) (held m c t t0) (win0_4.stage (cfg0.slots t 4)) := by
  unfold held
  exact Rd.right (Rd.right (Rd.right (Rd.right (Rd.right (Rd.right (Rd.left Rd.owns))))))

theorem held_at6 (c : Dev nD) (t : Fin cfg0.N) (t0 : St F) : Rd (Ix := Unit) (Name := ℕ) (U := UR sig nD τ) (Lvl := ℕ) (c : Thread nD τ) (held m c t t0) (win0_5.stage (cfg0.slots t 5)) := by
  unfold held
  exact Rd.right (Rd.right (Rd.right (Rd.right (Rd.right (Rd.right (Rd.right (Rd.left Rd.owns)))))))

theorem held_at7 (c : Dev nD) (t : Fin cfg0.N) (t0 : St F) : Rd (Ix := Unit) (Name := ℕ) (U := UR sig nD τ) (Lvl := ℕ) (c : Thread nD τ) (held m c t t0) (win0_6.stage (cfg0.slots t 6)) := by
  unfold held
  exact Rd.right (Rd.right (Rd.right (Rd.right (Rd.right (Rd.right (Rd.right (Rd.right (Rd.left Rd.owns))))))))

theorem held_at8 (c : Dev nD) (t : Fin cfg0.N) (t0 : St F) : Rd (Ix := Unit) (Name := ℕ) (U := UR sig nD τ) (Lvl := ℕ) (c : Thread nD τ) (held m c t t0) (win0_7.stage (cfg0.slots t 7)) := by
  unfold held
  exact Rd.right (Rd.right (Rd.right (Rd.right (Rd.right (Rd.right (Rd.right (Rd.right (Rd.right (Rd.left Rd.owns)))))))))

theorem held_at9 (c : Dev nD) (t : Fin cfg0.N) (t0 : St F) : Rd (Ix := Unit) (Name := ℕ) (U := UR sig nD τ) (Lvl := ℕ) (c : Thread nD τ) (held m c t t0) (win0_8.stage (cfg0.slots t 8)) := by
  unfold held
  exact Rd.right (Rd.right (Rd.right (Rd.right (Rd.right (Rd.right (Rd.right (Rd.right (Rd.right (Rd.right (Rd.left Rd.owns))))))))))

theorem held_at10 (c : Dev nD) (t : Fin cfg0.N) (t0 : St F) : Rd (Ix := Unit) (Name := ℕ) (U := UR sig nD τ) (Lvl := ℕ) (c : Thread nD τ) (held m c t t0) (win0_9.stage (cfg0.slots t 9)) := by
  unfold held
  exact Rd.right (Rd.right (Rd.right (Rd.right (Rd.right (Rd.right (Rd.right (Rd.right (Rd.right (Rd.right (Rd.right (Rd.left Rd.owns)))))))))))

theorem held_at11 (c : Dev nD) (t : Fin cfg0.N) (t0 : St F) : Rd (Ix := Unit) (Name := ℕ) (U := UR sig nD τ) (Lvl := ℕ) (c : Thread nD τ) (held m c t t0) (win0_10.stage (cfg0.slots t 10)) := by
  unfold held
  exact Rd.right (Rd.right (Rd.right (Rd.right (Rd.right (Rd.right (Rd.right (Rd.right (Rd.right (Rd.right (Rd.right (Rd.right (Rd.left Rd.owns))))))))))))

theorem held_at12 (c : Dev nD) (t : Fin cfg0.N) (t0 : St F) : Rd (Ix := Unit) (Name := ℕ) (U := UR sig nD τ) (Lvl := ℕ) (c : Thread nD τ) (held m c t t0) (win0_11.stage (cfg0.slots t 11)) := by
  unfold held
  exact Rd.right (Rd.right (Rd.right (Rd.right (Rd.right (Rd.right (Rd.right (Rd.right (Rd.right (Rd.right (Rd.right (Rd.right (Rd.right (Rd.left Rd.owns)))))))))))))

theorem held_at13 (c : Dev nD) (t : Fin cfg0.N) (t0 : St F) : Wr (Ix := Unit) (Name := ℕ) (U := UR sig nD τ) (Lvl := ℕ) (c : Thread nD τ) (held m c t t0) (win0_12.stage (cfg0.slots t 12)) := by
  unfold held
  exact Wr.right (Wr.right (Wr.right (Wr.right (Wr.right (Wr.right (Wr.right (Wr.right (Wr.right (Wr.right (Wr.right (Wr.right (Wr.right (Wr.right (Wr.left Wr.owns))))))))))))))

theorem held_at14 (c : Dev nD) (t : Fin cfg0.N) (t0 : St F) : Rd (Ix := Unit) (Name := ℕ) (U := UR sig nD τ) (Lvl := ℕ) (c : Thread nD τ) (held m c t t0) (win0_13.stage (cfg0.slots t 13)) := by
  unfold held
  exact Rd.right (Rd.right (Rd.right (Rd.right (Rd.right (Rd.right (Rd.right (Rd.right (Rd.right (Rd.right (Rd.right (Rd.right (Rd.right (Rd.right (Rd.right (Rd.left Rd.owns)))))))))))))))

theorem held_at15 (c : Dev nD) (t : Fin cfg0.N) (t0 : St F) : Rd (Ix := Unit) (Name := ℕ) (U := UR sig nD τ) (Lvl := ℕ) (c : Thread nD τ) (held m c t t0) (win0_14.stage (cfg0.slots t 14)) := by
  unfold held
  exact Rd.right (Rd.right (Rd.right (Rd.right (Rd.right (Rd.right (Rd.right (Rd.right (Rd.right (Rd.right (Rd.right (Rd.right (Rd.right (Rd.right (Rd.right (Rd.right (Rd.left Rd.owns))))))))))))))))

theorem held_at16 (c : Dev nD) (t : Fin cfg0.N) (t0 : St F) : Rd (Ix := Unit) (Name := ℕ) (U := UR sig nD τ) (Lvl := ℕ) (c : Thread nD τ) (held m c t t0) (win0_15.stage (cfg0.slots t 15)) := by
  unfold held
  exact Rd.right (Rd.right (Rd.right (Rd.right (Rd.right (Rd.right (Rd.right (Rd.right (Rd.right (Rd.right (Rd.right (Rd.right (Rd.right (Rd.right (Rd.right (Rd.right (Rd.right (Rd.left Rd.owns)))))))))))))))))

theorem held_at17 (c : Dev nD) (t : Fin cfg0.N) (t0 : St F) : Rd (Ix := Unit) (Name := ℕ) (U := UR sig nD τ) (Lvl := ℕ) (c : Thread nD τ) (held m c t t0) (win0_16.stage (cfg0.slots t 16)) := by
  unfold held
  exact Rd.right (Rd.right (Rd.right (Rd.right (Rd.right (Rd.right (Rd.right (Rd.right (Rd.right (Rd.right (Rd.right (Rd.right (Rd.right (Rd.right (Rd.right (Rd.right (Rd.right (Rd.right (Rd.owns))))))))))))))))))

theorem held_at18 (c : Dev nD) (t : Fin cfg0.N) (t0 : St F) : Rd (Ix := Unit) (Name := ℕ) (U := UR sig nD τ) (Lvl := ℕ) (c : Thread nD τ) (held m c t t0) (Memref.whole cc0_scratch0) := by
  unfold held
  exact Rd.left (Rd.left (Rd.left Rd.owns))

theorem held_at19 (c : Dev nD) (t : Fin cfg0.N) (t0 : St F) : Rd (Ix := Unit) (Name := ℕ) (U := UR sig nD τ) (Lvl := ℕ) (c : Thread nD τ) (held m c t t0) (Memref.whole cc0_scratch1) := by
  unfold held
  exact Rd.left (Rd.left (Rd.right (Rd.left Rd.owns)))

theorem held_at20 (c : Dev nD) (t : Fin cfg0.N) (t0 : St F) : Wr (Ix := Unit) (Name := ℕ) (U := UR sig nD τ) (Lvl := ℕ) (c : Thread nD τ) (held m c t t0) (Memref.whole cc0_scratch2) := by
  unfold held
  exact Wr.left (Wr.left (Wr.right (Wr.right (Wr.left Wr.owns))))

theorem held_at21 (c : Dev nD) (t : Fin cfg0.N) (t0 : St F) : Rd (Ix := Unit) (Name := ℕ) (U := UR sig nD τ) (Lvl := ℕ) (c : Thread nD τ) (held m c t t0) (Memref.whole cc0_scratch3) := by
  unfold held
  exact Rd.left (Rd.left (Rd.right (Rd.right (Rd.right (Rd.left Rd.owns)))))

theorem held_at22 (c : Dev nD) (t : Fin cfg0.N) (t0 : St F) : Wr (Ix := Unit) (Name := ℕ) (U := UR sig nD τ) (Lvl := ℕ) (c : Thread nD τ) (held m c t t0) (Memref.whole cc0_scratch4) := by
  unfold held
  exact Wr.left (Wr.left (Wr.right (Wr.right (Wr.right (Wr.right (Wr.left Wr.owns))))))

theorem held_at23 (c : Dev nD) (t : Fin cfg0.N) (t0 : St F) : Wr (Ix := Unit) (Name := ℕ) (U := UR sig nD τ) (Lvl := ℕ) (c : Thread nD τ) (held m c t t0) (Memref.whole cc0_scratch5) := by
  unfold held
  exact Wr.left (Wr.left (Wr.right (Wr.right (Wr.right (Wr.right (Wr.right (Wr.owns)))))))

/-- The body, over what it holds. -/
theorem held_run (c : Dev nD) (t : Fin cfg0.N) (t0 : St F) :
    Run (Ix := Unit) (Name := ℕ) (U := UR sig nD τ) (Lvl := ℕ) defs₀ Variants.none Set.univ (c : Thread nD τ) (held m c t) t0 (bodyAt0 (F := F) t)
      (fun _ t' => ∃ u6 u7 u9 u10, t' = after (grid0.coords t) (iblk m c 0 t) (iblk m c 1 t) (iblk m c 2 t) (iblk m c 4 t) (iblk m c 6 t) (iblk m c 7 t) (iblk m c 8 t) (iblk m c 9 t) (iblk m c 10 t) u6 u7 u9 u10 t0) := by
  obtain ⟨o, w1, w2, w3, w4, h, a, s⟩ := t0
  unfold bodyAt0
  exact run_body (G := held m c t) (c := c) (E := Set.univ) (grid0.coords t)
      (held_rd1 m c t)
      (held_rd2 m c t)
      (held_rd3 m c t)
      (held_rd5 m c t)
      (held_rd7 m c t)
      (held_rd8 m c t)
      (held_rd9 m c t)
      (held_rd10 m c t)
      (held_rd11 m c t)
      (held_rd18 m c t)
      (held_rd19 m c t)
      (held_rd21 m c t)
      (held_wr12 m c t)
      (held_wr14 m c t)
      (held_wr15 m c t)
      (held_wr16 m c t)
      (held_wr17 m c t)
      (held_wr18 m c t)
      (held_wr19 m c t)
      (held_wr21 m c t)
      (held_at1 m c t)
      (held_at2 m c t)
      (held_at3 m c t)
      (held_at4 m c t)
      (held_at5 m c t)
      (held_at6 m c t)
      (held_at7 m c t)
      (held_at8 m c t)
      (held_at9 m c t)
      (held_at10 m c t)
      (held_at11 m c t)
      (held_at12 m c t)
      (held_at13 m c t)
      (held_at14 m c t)
      (held_at15 m c t)
      (held_at16 m c t)
      (held_at17 m c t)
      (held_at18 m c t)
      (held_at19 m c t)
      (held_at20 m c t)
      (held_at21 m c t)
      (held_at22 m c t)
      (held_at23 m c t) o w1 w2 w3 w4 h a s

/-- The body at any point. -/
theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ iprop(∃ t0 : St F, ⌜Inv m c t.val t0.h t0.a t0.s⌝ ∗ held m c t t0) := by
    unfold bodyPre held
    simp only [before0_0, before0_1, before0_2, before0_3, before0_4, before0_5, before0_6, before0_7, before0_8, before0_9, before0_10]
    rw [show (dats m 0 c).Φ t.castSucc = PhiN m c t.val from rfl]
    unfold PhiN
    iintro ⟨⟨%h, %a, %s, %hi, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, ⟨%d14, H14⟩, ⟨%d15, H15⟩, ⟨%d16, H16⟩⟩
    iexists (⟨d11, (dats m 0 c).before 13 t d13, (dats m 0 c).before 14 t d14, (dats m 0 c).before 15 t d15, (dats m 0 c).before 16 t d16, h, a, s⟩ : St F)
    isplitr; · ipureintro; exact hi
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  have hpost : ∀ t0 : St F, Inv m c t.val t0.h t0.a t0.s →
      iprop(∃ t1 : St F, ⌜∃ u6 u7 u9 u10, t1 = after (grid0.coords t) (iblk m c 0 t) (iblk m c 1 t) (iblk m c 2 t) (iblk m c 4 t) (iblk m c 6 t) (iblk m c 7 t) (iblk m c 8 t) (iblk m c 9 t) (iblk m c 10 t) u6 u7 u9 u10 t0⌝ ∗ held m c t t1) ⊢ bodyPost m c t := by
    intro t0 hi
    unfold bodyPost held
    rw [leaves0_0, leaves0_1, leaves0_2, leaves0_3, leaves0_4, leaves0_5, leaves0_6, leaves0_7, leaves0_8, leaves0_9, leaves0_10, leaves0_13, leaves0_14, leaves0_15, leaves0_16]
    rw [show (dats m 0 c).Φ t.succ = PhiN m c (t.val + 1) from rfl,
      show (dats m 0 c).owesAt () t.succ = (dats m 0 c).owesAt () t.castSucc from rfl]
    unfold PhiN
    iintro ⟨%t1, %h1, HΦ, Ho, H0, H1, H2, H3, H4, H5, H6, H7, H8, H9, H10, H11, H12, H13, H14, H15, H16⟩
    obtain ⟨u6, u7, u9, u10, h1⟩ := h1
    obtain ⟨hi', e13, e14, e15, e16⟩ := step m c t t0 hi u6 u7 u9 u10 t1 h1
    rw [← e13, ← e14, ← e15, ← e16]
    isplitl [HΦ]
    · iexists t1.h, t1.a, t1.s
      isplitr; · ipureintro; exact hi'
      iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists t1.o; iexact H11
    isplitl [H12]; · iexact H12
    isplitl [H13]; · iexact H13
    isplitl [H14]; · iexact H14
    isplitl [H15]; · iexact H15
    iexact H16
  refine hpre.trans ?_
  iintro ⟨%t0, %hi, H⟩
  have hr := (held_run m c t t0)
  unfold Run at hr
  have hr2 := hr.trans ((wp _ _ _ _).mono fun _ => hpost t0 hi)
  iapply hr2
  iexact H

theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the program, its counters at zero at the end. -/
theorem run_main : θ_run defs (onTc (τ := τ) (main (F := F))) (s₀ m ρ) (Pipeline.RDat.FramePost (cfgs 0) (fun c => (dats m 0 c).toRForget forgets0) (V m)) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The named outputs' arrays at the end. -/
theorem arrays : θ_run defs (onTc (τ := τ) (main (F := F))) (s₀ m ρ) (fun r => ∀ c : Dev nD,
      r.2.mem ((cfg0.spec 13).arr.view.loc (c.tc : Thread nD τ)) = (dats m 0 c).arrAt 13 cfg0.N
      ∧ r.2.mem ((cfg0.spec 14).arr.view.loc (c.tc : Thread nD τ)) = (dats m 0 c).arrAt 14 cfg0.N
      ∧ r.2.mem ((cfg0.spec 15).arr.view.loc (c.tc : Thread nD τ)) = (dats m 0 c).arrAt 15 cfg0.N
      ∧ r.2.mem ((cfg0.spec 16).arr.view.loc (c.tc : Thread nD τ)) = (dats m 0 c).arrAt 16 cfg0.N) :=
  (θ_run defs _ _).mono (fun r h c => ⟨((dats m 0 c).toRForget_arrAt_iff (w := 13) rfl _ _).mp ((h c).1 13),
    ((dats m 0 c).toRForget_arrAt_iff (w := 14) rfl _ _).mp ((h c).1 14),
    ((dats m 0 c).toRForget_arrAt_iff (w := 15) rfl _ _).mp ((h c).1 15),
    ((dats m 0 c).toRForget_arrAt_iff (w := 16) rfl _ _).mp ((h c).1 16)⟩) (run_main m ρ)

end Cert.MixerIdeal.Named

end
-- ==== Proof.MixerCasts.lean ====
/- The mixer's four side results: every block the body casts is the block of the weight array it came from, so at the end
   each result holds its weight array whole. The body casts a block at every one of the 129 points; the last points cast the
   last block again. -/
module

public import proofs.«01_k».proof.Proof.MixerIdealNamed
public import proofs.«01_k».proof.Proof.MixerIdealFrame
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixerIdeal.Named

open Cert.MixerIdeal Cert.MixerIdeal.Gen

/-- The side windows' block indices at a point. -/
theorem side : ∀ t : Fin cfg0.N, win0_7.index t = ![min t.val 127, 0] ∧ win0_8.index t = ![min t.val 127, 0]
    ∧ win0_9.index t = ![min t.val 87, 0] ∧ win0_10.index t = ![min t.val 127, 0] ∧ win0_13.index t = ![min t.val 127, 0]
    ∧ win0_14.index t = ![min t.val 127, 0] ∧ win0_15.index t = ![min t.val 87, 0] ∧ win0_16.index t = ![min t.val 127, 0] :=
  (by decide +kernel : ∀ t : Fin grid0.N, _)

variable (m : (ℓ : Loc nD τ sig) → Buf (Elt Ideal) ℓ) (ρ : Dev nD → PrngReg)

/-- The gate weights' cast. -/
theorem final13 (c : Dev nD) : (dats m 0 c).arrAt 13 cfg0.N
    = ((m ((c : Thread nD τ).loc main_arg7) : Vec Ideal S2048x5632 .f32) : S2048x5632.Idx → EReal) := by
  refine (dats m 0 c).arrAt_eq_of_covers 13 _ (by decide +kernel) fun t hf y => ?_
  blk_simp
  rw [after0_13]
  unfold k0_pay8
  pointwise
  blk_point [iblk, V, side t]

/-- The up weights' cast. -/
theorem final14 (c : Dev nD) : (dats m 0 c).arrAt 14 cfg0.N
    = ((m ((c : Thread nD τ).loc main_arg8) : Vec Ideal S2048x5632 .f32) : S2048x5632.Idx → EReal) := by
  refine (dats m 0 c).arrAt_eq_of_covers 14 _ (by decide +kernel) fun t hf y => ?_
  blk_simp
  rw [after0_14]
  unfold k0_pay9
  pointwise
  blk_point [iblk, V, side t]

/-- The down weights' cast. -/
theorem final15 (c : Dev nD) : (dats m 0 c).arrAt 15 cfg0.N
    = ((m ((c : Thread nD τ).loc main_arg9) : Vec Ideal S5632x2048 .f32) : S5632x2048.Idx → EReal) := by
  refine (dats m 0 c).arrAt_eq_of_covers 15 _ (by decide +kernel) fun t hf y => ?_
  blk_simp
  rw [after0_15]
  unfold k0_pay10
  pointwise
  blk_point [iblk, V, side t]

/-- The output weights' cast. -/
theorem final16 (c : Dev nD) : (dats m 0 c).arrAt 16 cfg0.N
    = ((m ((c : Thread nD τ).loc main_arg10) : Vec Ideal S2048x2048 .f32) : S2048x2048.Idx → EReal) := by
  refine (dats m 0 c).arrAt_eq_of_covers 16 _ (by decide +kernel) fun t hf y => ?_
  blk_simp
  rw [after0_16]
  unfold k0_pay11
  pointwise
  blk_point [iblk, V, side t]

end Cert.MixerIdeal.Named

end
-- ==== Proof.FfnMath.lean ====
/- The feed-forward block on rows of extended reals: the normalised row, the gated activation of a column pair, and the two
   facts about sums that set the kernel's tiled accumulation beside the plain contraction. -/
module

public import Idealize.ShloMosaic.Lib.Pipeline.ValueKit
public import Idealize.ShloMosaic.PureOps.Ideal.Laws
public import Idealize.ShloMosaic.Lib.IdealHost

@[expose] public section

noncomputable section

open Idealize.ShloMosaic

namespace Cert.FfnMath

/-- The constant one half. -/
abbrev half : EReal := Ideal.ofBits .f32 0x3F000000#32

/-- The factor by which a row with sum of squares `s` is scaled. -/
def scale (s : EReal) : EReal :=
  Ideal.rsqrt (Ideal.div s (Ideal.ofBits .f32 0x45000000#32) + Ideal.ofBits .f32 0x358637BD#32)

/-- Entry `k` of the row `x` scaled to unit mean square and multiplied by the gains `g`. -/
def nrm (x g : Fin 2048 → EReal) (k : Fin 2048) : EReal := x k * scale (∑ j, x j * x j) * g k

/-- The gated activation of the row `h` against a gate column `a` and an up column `b`. -/
def act (h a b : Fin 2048 → EReal) : EReal :=
  (∑ k, h k * a k) * Ideal.logistic (∑ k, h k * a k) * ∑ k, h k * b k

theorem nrm_congr {x x' g g' : Fin 2048 → EReal} {k k' : Fin 2048} (hx : ∀ j, x j = x' j) (hg : ∀ j, g j = g' j)
    (hk : k = k') : nrm x g k = nrm x' g' k' := by
  obtain rfl : x = x' := funext hx
  obtain rfl : g = g' := funext hg
  rw [hk]

/-- A row normalised entry by entry with the sum started from zero. -/
theorem nrm_of {x g : Fin 2048 → EReal} {k : Fin 2048} {v w : EReal} {u u' : Fin 2048 → EReal} (hv : v = x k)
    (hu : ∀ j, u j = x j) (hu' : ∀ j, u' j = x j) (hw : w = g k) :
    v * Ideal.rsqrt (Ideal.div (Ideal.ofBits .f32 0x00000000#32 + ∑ j, u j * u' j) (Ideal.ofBits .f32 0x45000000#32)
      + Ideal.ofBits .f32 0x358637BD#32) * w = nrm x g k := by
  obtain rfl : u = x := funext hu
  obtain rfl : u' = u := funext hu'
  rw [Ideal.ofBits_zero_f32, zero_add, hv, hw]
  rfl

theorem act_congr {h h' a a' b b' : Fin 2048 → EReal} (hh : ∀ j, h j = h' j) (ha : ∀ j, a j = a' j) (hb : ∀ j, b j = b' j) :
    act h a b = act h' a' b' := by
  obtain rfl : h = h' := funext hh
  obtain rfl : a = a' := funext ha
  obtain rfl : b = b' := funext hb
  rfl

/-- Column `q` of tile `s`. -/
abbrev col (s : ℕ) (q : Fin 512) : Fin 5632 := Fin.ofNat 5632 (512 * s + q.val)

theorem col_val {s : ℕ} (hs : s < 11) (q : Fin 512) : (col s q).val = 512 * s + q.val :=
  Nat.mod_eq_of_lt (by omega)

/-- Tile `s`'s contribution to one output entry: `h` the normalised row, `a` and `b` the two weight matrices by column,
    `d` the down-projection's column for that entry. -/
def tile (h : Fin 2048 → EReal) (a b : Fin 5632 → Fin 2048 → EReal) (d : Fin 5632 → EReal) (s : ℕ) : EReal :=
  ∑ q : Fin 512, act h (a (col s q)) (b (col s q)) * half * d (col s q)

/-- Eleven tiles of 512 columns are the 5632 columns. -/
theorem sum_tiles (f : Fin 5632 → EReal) : ∑ s ∈ Finset.range 11, ∑ q : Fin 512, f (col s q) = ∑ k, f k := by
  rw [Finset.sum_range, ← Fintype.sum_prod_type' (f := fun (s : Fin 11) (q : Fin 512) => f (col s q)),
    ← (finProdFinEquiv (m := 11) (n := 512)).sum_comp]
  refine Finset.sum_congr rfl fun p _ => congrArg f (Fin.ext ?_)
  rw [col_val p.1.isLt]
  show _ = p.2.val + 512 * p.1.val
  omega

theorem half_eq : half = ((1 / 2 : ℝ) : EReal) := by
  simp [Ideal.ofBits, Ideal.ieee, -EReal.coe_mul]; norm_num

/-- A finite factor that is not negative goes into a sum of extended reals. -/
theorem mul_sum {ι : Type*} (S : Finset ι) (f : ι → EReal) : half * ∑ i ∈ S, f i = ∑ i ∈ S, half * f i := by
  classical
  induction S using Finset.induction_on with
  | empty => simp
  | insert i S hi ih =>
    rw [Finset.sum_insert hi, Finset.sum_insert hi,
      EReal.left_distrib_of_nonneg_of_ne_top (by rw [half_eq]; exact_mod_cast (by norm_num : (0 : ℝ) ≤ 1 / 2))
        (by rw [half_eq]; exact EReal.coe_ne_top _), ih]

/-- The tiles' contributions, each with the half inside, are half the whole contraction. -/
theorem sum_tile (h : Fin 2048 → EReal) (a b : Fin 5632 → Fin 2048 → EReal) (d : Fin 5632 → EReal) :
    ∑ s ∈ Finset.range 11, tile h a b d s = half * ∑ k, act h (a k) (b k) * d k := by
  unfold tile
  rw [sum_tiles (fun k => act h (a k) (b k) * half * d k), mul_sum]
  refine Finset.sum_congr rfl fun k _ => ?_
  rw [mul_comm (act h (a k) (b k)) half, mul_assoc]

end Cert.FfnMath

end
-- ==== Proof.Ffn2Value.lean ====
/- The value of the second feed-forward block: the eleven points of a row block carry the normalised rows in the scratch and
   add one tile of columns each, and the last point normalises the sum. -/
module

public import proofs.«01_k».proof.Defs
public import proofs.«01_k».proof.Proof.FfnMath
public import proofs.«01_k».proof.Proof.Gen.Ffn2Ideal.Value
public import proofs.«01_k».proof.Proof.Gen.Ffn2RefIdeal.Read
public import Idealize.ShloMosaic.Lib.IdealHost
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ffn2Ideal.RefValue

open Cert.Ffn2Ideal Cert.Ffn2Ideal.Gen Cert.Ffn2Ideal.Value Cert.FfnMath

variable (m : (ℓ : Loc nD τ sig) → Buf (Elt Ideal) ℓ) (ρ : Dev nD → PrngReg)

/-! ## What is computed, entry by entry -/

/-- Row `r` of the argument. -/
def row (x : Vec Ideal S16384x2048 .f32) (r : Fin 16384) : Fin 2048 → EReal := fun k => x (ix2 r k)

/-- The one row of gains. -/
def gain (g : Vec Ideal S1x2048 .f32) : Fin 2048 → EReal := fun k => g (ix2 0 k)

/-- Row `r` after the tiles before tile `p` have been added. -/
def part (x : Vec Ideal S16384x2048 .f32) (g : Vec Ideal S1x2048 .f32) (a b : Vec Ideal S2048x5632 .bf16)
    (d : Vec Ideal S5632x2048 .bf16) (p : ℕ) (r : Fin 16384) (n : Fin 2048) : EReal :=
  row x r n + ∑ s ∈ Finset.range p,
    tile (nrm (row x r) (gain g)) (fun q k => a (ix2 k q)) (fun q k => b (ix2 k q)) (fun q => d (ix2 q n)) s

/-- The block's result: the residual sum normalised once more. -/
def OUT (x : Vec Ideal S16384x2048 .f32) (g : Vec Ideal S1x2048 .f32) (a b : Vec Ideal S2048x5632 .bf16)
    (d : Vec Ideal S5632x2048 .bf16) (f : Fin 2048 → EReal) : Vec Ideal S16384x2048 .f32 := fun i =>
  nrm (part x g a b d 11 (i 0)) f (i 1)

/-! ## The payloads at an index -/

section Payloads

/-- A tile's contribution to column `n`, of the loaded blocks. -/
def sl (h : Fin 2048 → EReal) (a b : Vec Ideal S2048x512 .bf16) (d : Vec Ideal S512x2048 .bf16) (n : Fin 2048) : EReal :=
  ∑ q : Fin 512, act h (fun k => a (ix2 k q)) (fun k => b (ix2 k q)) * half * d (ix2 q n)

theorem pay1_apply (v : Vec Ideal S512x2048 .f32) (g : Vec Ideal S1x2048 .f32) (y : S512x2048.Idx) :
    k0_pay1 (F := Ideal) v g y = nrm (fun k => v (ix2 (y 0) k)) (gain g) (y 1) := by
  unfold k0_pay1 nrm scale gain
  pointwise

theorem pay6_apply (v : Vec Ideal S512x2048 .f32) (g : Vec Ideal S1x2048 .f32) (y : S512x2048.Idx) :
    k0_pay6 (F := Ideal) v g y = nrm (fun k => v (ix2 (y 0) k)) (gain g) (y 1) := pay1_apply v g y

theorem pay2_apply (v : Vec Ideal S512x2048 .f32) (g : Vec Ideal S1x2048 .f32) (y : S512x2048.Idx) :
    k0_pay2 (F := Ideal) v g y = nrm (fun k => v (ix2 (y 0) k)) (gain g) (y 1) := by
  unfold k0_pay2; rw [shapeCast_self]; exact pay1_apply v g y

theorem pay7_apply (v : Vec Ideal S512x2048 .f32) (g : Vec Ideal S1x2048 .f32) (y : S512x2048.Idx) :
    k0_pay7 (F := Ideal) v g y = nrm (fun k => v (ix2 (y 0) k)) (gain g) (y 1) := pay2_apply v g y

theorem pay3_apply (v : Vec Ideal S512x2048 .f32) (g : Vec Ideal S1x2048 .f32) (a b : Vec Ideal S2048x512 .bf16)
    (d : Vec Ideal S512x2048 .bf16) (y : S512x2048.Idx) :
    k0_pay3 (F := Ideal) v g a b d y = v y + sl (nrm (fun k => v (ix2 (y 0) k)) (gain g)) a b d (y 1) := by
  unfold k0_pay3 sl act
  pointwise
  simp only [pay1_apply]
  rfl

theorem pay8_apply (v : Vec Ideal S512x2048 .f32) (g : Vec Ideal S1x2048 .f32) (a b : Vec Ideal S2048x512 .bf16)
    (d : Vec Ideal S512x2048 .bf16) (y : S512x2048.Idx) :
    k0_pay8 (F := Ideal) v g a b d y = v y + sl (nrm (fun k => v (ix2 (y 0) k)) (gain g)) a b d (y 1) := pay3_apply v g a b d y

theorem pay4_apply (v : Vec Ideal S1024x2048 .f32) (h : Vec Ideal S1024x2048 .bf16) (a b : Vec Ideal S2048x512 .bf16)
    (d : Vec Ideal S512x2048 .bf16) (y : S1024x2048.Idx) :
    k0_pay4 (F := Ideal) v h a b d y = v y + sl (fun k => h (ix2 (y 0) k)) a b d (y 1) := by
  unfold k0_pay4 sl act
  pointwise

theorem pay9_apply (v : Vec Ideal S512x2048 .f32) (h : Vec Ideal S512x2048 .bf16) (a b : Vec Ideal S2048x512 .bf16)
    (d : Vec Ideal S512x2048 .bf16) (g : Vec Ideal S1x2048 .f32) (y : S512x2048.Idx) :
    k0_pay9 (F := Ideal) v h a b d g y
      = nrm (fun n => v (ix2 (y 0) n) + sl (fun k => h (ix2 (y 0) k)) a b d n) (gain g) (y 1) := by
  unfold k0_pay9 sl act nrm scale gain
  pointwise

theorem pay5_apply (v : Vec Ideal S512x2048 .f32) (h : Vec Ideal S512x2048 .bf16) (a b : Vec Ideal S2048x512 .bf16)
    (d : Vec Ideal S512x2048 .bf16) (g : Vec Ideal S1x2048 .f32) (y : S512x2048.Idx) :
    k0_pay5 (F := Ideal) (k0_pay10 v) h a b d g y
      = nrm (fun n => v (ix2 (y 0) n) + sl (fun k => h (ix2 (y 0) k)) a b d n) (gain g) (y 1) := pay9_apply v h a b d g y

end Payloads

/-! ## The points -/

/-- Every window's block index at a point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

variable (c : Dev nD)

/-- The arguments the call finds. -/
abbrev X : Vec Ideal S16384x2048 .f32 := m ((c : Thread nD τ).loc main_arg0)
abbrev G : Vec Ideal S1x2048 .f32 := m ((c : Thread nD τ).loc main_arg1)
abbrev WA : Vec Ideal S2048x5632 .bf16 := m ((c : Thread nD τ).loc main_arg2)
abbrev WB : Vec Ideal S2048x5632 .bf16 := m ((c : Thread nD τ).loc main_arg3)
abbrev WD : Vec Ideal S5632x2048 .bf16 := m ((c : Thread nD τ).loc main_arg4)

/-- The array row that row `y` of point `n`'s block is. -/
abbrev rowAt (n : ℕ) (y : Fin 1024) : Fin 16384 := Fin.ofNat 16384 (1024 * (n / 11) + y.val)

theorem blk_row (t : Fin cfg0.N) (y : Fin 1024) (k : Fin 2048) : iblk m c 0 t (ix2 y k) = row (X m c) (rowAt t.val y) k := by
  have hN : t.val < 176 := lt_of_lt_of_eq t.isLt (show cfg0.N = 176 from N_0)
  have hv : (rowAt t.val y).val = 1024 * (t.val / 11) + y.val := Nat.mod_eq_of_lt (by omega)
  unfold row
  blk_ext [iblk, V, idx t, hv]

theorem blk_gain (t : Fin cfg0.N) (k : Fin 2048) : gain (iblk m c 1 t) k = gain (G m c) k := by
  unfold gain
  blk_ext! [iblk, V, idx t]

theorem blk_sl (t : Fin cfg0.N) (h h' : Fin 2048 → EReal) (hh : ∀ k, h k = h' k) (n n' : Fin 2048) (hn : n = n') :
    sl h (iblk m c 2 t) (iblk m c 3 t) (iblk m c 4 t) n
      = tile h' (fun q k => WA m c (ix2 k q)) (fun q k => WB m c (ix2 k q)) (fun q => WD m c (ix2 q n')) (t.val % 11) := by
  subst hn
  unfold sl tile
  refine Finset.sum_congr rfl fun q _ => ?_
  have hv := col_val (Nat.mod_lt t.val (by decide : 0 < 11)) q
  refine congrArg₂ (· * ·) (congrArg (· * half) (act_congr hh (fun k => ?_) fun k => ?_)) ?_
  · blk_ext [iblk, V, idx t, hv]
  · blk_ext [iblk, V, idx t, hv]
  · blk_ext [iblk, V, idx t, hv]

/-- The normalised row of a point's block. -/
abbrev hrow (n : ℕ) (y : Fin 1024) : Fin 2048 → EReal := nrm (row (X m c) (rowAt n y)) (gain (G m c))

/-- What has been added up by a point, at a place of its block. -/
abbrev acc (p n : ℕ) (y : S1024x2048.Idx) : EReal :=
  part (X m c) (G m c) (WA m c) (WB m c) (WD m c) p (rowAt n (y 0)) (y 1)

theorem acc_succ (p n : ℕ) (y : S1024x2048.Idx) : acc m c (p + 1) n y = acc m c p n y
    + tile (hrow m c n (y 0)) (fun q k => WA m c (ix2 k q)) (fun q k => WB m c (ix2 k q)) (fun q => WD m c (ix2 q (y 1))) p := by
  unfold acc part
  rw [Finset.sum_range_succ, add_assoc]

/-- The first point of a run adds tile 0 to the rows it loads. -/
theorem out_A (t : Fin cfg0.N) (h0 : t.val % 11 = 0) (y : S1024x2048.Idx) :
    (outsAt0 m c t.val t.isLt).1 y = acc m c 1 t.val y := by
  have e : acc m c 1 t.val y = row (X m c) (rowAt t.val (y 0)) (y 1) + tile (hrow m c t.val (y 0)) (fun q k => WA m c (ix2 k q))
      (fun q k => WB m c (ix2 k q)) (fun q => WD m c (ix2 q (y 1))) (t.val % 11) := by
    unfold acc part; rw [h0, Finset.sum_range_one]
  rw [Gen.outsAt0_A m c t h0 (by omega) (by omega), e]
  frame_out
  canon_tiles x hx
  · rw [pay3_apply]
    refine congrArg₂ (· + ·) ?_ (blk_sl m c t _ _ (fun k => nrm_congr (fun k => ?_) (blk_gain m c t) rfl) _ _ (Fin.ext hx1.symm))
    · pointwise
      exact (blk_row m c t _ _).trans (congrArg₂ (row (X m c)) (congrArg (rowAt t.val) (Fin.ext hx0.symm)) (Fin.ext hx1.symm))
    · pointwise
      exact (blk_row m c t _ _).trans (congrArg₂ (row (X m c)) (congrArg (rowAt t.val) (Fin.ext hx0.symm)) rfl)
  · rw [pay8_apply]
    refine congrArg₂ (· + ·) ?_ (blk_sl m c t _ _ (fun k => nrm_congr (fun k => ?_) (blk_gain m c t) rfl) _ _ (Fin.ext hx1.symm))
    · pointwise
      exact (blk_row m c t _ _).trans (congrArg₂ (row (X m c)) (congrArg (rowAt t.val) (Fin.ext hx0.symm)) (Fin.ext hx1.symm))
    · pointwise
      exact (blk_row m c t _ _).trans (congrArg₂ (row (X m c)) (congrArg (rowAt t.val) (Fin.ext hx0.symm)) rfl)

/-- The first point of a run leaves the normalised rows in the scratch. -/
theorem scr_A (t : Fin cfg0.N) (h0 : t.val % 11 = 0) (y : S1024x2048.Idx) :
    (outsAt0 m c t.val t.isLt).2 y = hrow m c t.val (y 0) (y 1) := by
  rw [Gen.outsAt0_A m c t h0 (by omega) (by omega)]
  frame_out
  canon_tiles x hx
  · rw [pay2_apply]
    refine nrm_congr (fun k => ?_) (blk_gain m c t) (Fin.ext hx1.symm)
    pointwise
    exact (blk_row m c t _ _).trans (congrArg₂ (row (X m c)) (congrArg (rowAt t.val) (Fin.ext hx0.symm)) rfl)
  · rw [pay7_apply]
    refine nrm_congr (fun k => ?_) (blk_gain m c t) (Fin.ext hx1.symm)
    pointwise
    exact (blk_row m c t _ _).trans (congrArg₂ (row (X m c)) (congrArg (rowAt t.val) (Fin.ext hx0.symm)) rfl)

/-- Along a run the scratch holds the normalised rows, and before its last point the output block the sum so far. -/
theorem inv (n : ℕ) (hn : n < cfg0.N) : (n % 11 ≤ 9 → ∀ y, (outsAt0 m c n hn).1 y = acc m c (n % 11 + 1) n y)
    ∧ ∀ y : S1024x2048.Idx, (outsAt0 m c n hn).2 y = hrow m c n (y 0) (y 1) := by
  induction n with
  | zero => exact ⟨fun _ y => out_A m c ⟨0, hn⟩ rfl y, scr_A m c ⟨0, hn⟩ rfl⟩
  | succ n ih =>
    by_cases h0 : (n + 1) % 11 = 0
    · refine ⟨fun _ y => ?_, scr_A m c ⟨n + 1, hn⟩ h0⟩
      rw [h0]; exact out_A m c ⟨n + 1, hn⟩ h0 y
    obtain ⟨ih1, ih2⟩ := ih (Nat.lt_of_succ_lt hn)
    have hm : (n + 1) % 11 = n % 11 + 1 := by omega
    have hr : ∀ y, rowAt (n + 1) y = rowAt n y := fun y => by unfold rowAt; rw [show (n + 1) / 11 = n / 11 by omega]
    have hh : ∀ y : S1024x2048.Idx, (outsAt0 m c n (Nat.lt_of_succ_lt hn)).2 y = hrow m c (n + 1) (y 0) (y 1) := fun y => by
      exact (ih2 y).trans (congrArg (fun r => nrm (row (X m c) r) (gain (G m c)) (y 1)) (hr (y 0)).symm)
    by_cases h1 : (n + 1) % 11 ≤ 9
    · refine ⟨fun _ y => ?_, fun y => ?_⟩
      · refine (congrFun (congrArg Prod.fst (Gen.outsAt0_B m c ⟨n + 1, hn⟩ h0 ⟨by dsimp only; omega, h1⟩ (by dsimp only; omega))) y).trans ?_
        frame_out
        rw [pay4_apply, acc_succ]
        refine congrArg₂ (· + ·) ?_ ?_
        · refine (ih1 (by omega) y).trans ?_
          rw [← hm]
          exact congrArg (fun r => part (X m c) (G m c) (WA m c) (WB m c) (WD m c) ((n + 1) % 11) r (y 1)) (hr (y 0)).symm
        · exact blk_sl m c ⟨n + 1, hn⟩ _ _ (fun k => by simp only [read_unread_whole]; exact hh _) _ _ rfl
      · refine (congrFun (congrArg Prod.snd (Gen.outsAt0_B m c ⟨n + 1, hn⟩ h0 ⟨by dsimp only; omega, h1⟩ (by dsimp only; omega))) y).trans ?_
        exact hh y
    · refine ⟨fun h => absurd h h1, fun y => ?_⟩
      refine (congrFun (congrArg Prod.snd (Gen.outsAt0_C m c ⟨n + 1, hn⟩ h0 (by dsimp only; omega) (by dsimp only; omega))) y).trans ?_
      exact hh y

/-- The final gains. -/
abbrev FG : Fin 2048 → EReal := fun k => (m ((c : Thread nD τ).loc main_arg5) : Vec Ideal S2048 .f32) (ix1 k)

theorem blk_fgain (t : Fin cfg0.N) (k : Fin 2048) : gain (iblk m c 5 t) k = FG m c k := by
  unfold gain
  blk_ext! [iblk, V, idx t]

/-- The last point of a run leaves the finished rows. -/
theorem out_C (t : Fin cfg0.N) (h2 : t.val % 11 = 10) (y : S1024x2048.Idx) :
    (outsAt0 m c t.val t.isLt).1 y
      = nrm (part (X m c) (G m c) (WA m c) (WB m c) (WD m c) 11 (rowAt t.val (y 0))) (FG m c) (y 1) := by
  obtain ⟨i1, i2⟩ := inv m c (t.val - 1) (by omega)
  have hr : ∀ y, rowAt (t.val - 1) y = rowAt t.val y := fun y => by
    unfold rowAt; rw [show (t.val - 1) / 11 = t.val / 11 by omega]
  have hp : ∀ (y : S1024x2048.Idx) (n : Fin 2048), (outsAt0 m c (t.val - 1) (by omega)).1 (ix2 (y 0) n)
      = part (X m c) (G m c) (WA m c) (WB m c) (WD m c) 10 (rowAt t.val (y 0)) n := fun y n =>
    (i1 (by omega) _).trans (by
      rw [show (t.val - 1) % 11 + 1 = 10 by omega]
      exact congrArg (fun r => part (X m c) (G m c) (WA m c) (WB m c) (WD m c) 10 r n) (hr (y 0)))
  have hh : ∀ (y : S1024x2048.Idx) (k : Fin 2048), (outsAt0 m c (t.val - 1) (by omega)).2 (ix2 (y 0) k)
      = hrow m c t.val (y 0) k := fun y k =>
    (i2 _).trans (congrArg (fun r => nrm (row (X m c) r) (gain (G m c)) k) (hr (y 0)))
  have hs : ∀ n, part (X m c) (G m c) (WA m c) (WB m c) (WD m c) 11 (rowAt t.val (y 0)) n
      = part (X m c) (G m c) (WA m c) (WB m c) (WD m c) 10 (rowAt t.val (y 0)) n
        + tile (hrow m c t.val (y 0)) (fun q k => WA m c (ix2 k q)) (fun q k => WB m c (ix2 k q)) (fun q => WD m c (ix2 q n)) (t.val % 11) :=
    fun n => by rw [h2]; exact acc_succ m c 10 t.val (ix2 (y 0) n)
  rw [Gen.outsAt0_C m c t (by omega) (by omega) h2]
  frame_out
  simp only [read_unread_whole]
  canon_tiles x hx
  · have e0 : (⟨512 + (x 0).val, by omega⟩ : Fin 1024) = y 0 := Fin.ext hx0.symm
    rw [pay5_apply]
    refine nrm_congr (fun n => ?_) (blk_fgain m c t) (Fin.ext hx1.symm)
    rw [hs]
    refine congrArg₂ (· + ·) ?_ (blk_sl m c t _ _ (fun k => ?_) _ _ rfl)
    · pointwise
      rw [e0]
      exact hp y n
    · pointwise
      rw [e0]
      exact hh y k
  · have e0 : (⟨(x 0).val, by omega⟩ : Fin 1024) = y 0 := Fin.ext hx0.symm
    rw [pay9_apply]
    refine nrm_congr (fun n => ?_) (blk_fgain m c t) (Fin.ext hx1.symm)
    rw [hs]
    refine congrArg₂ (· + ·) ?_ (blk_sl m c t _ _ (fun k => ?_) _ _ rfl)
    · pointwise
      rw [e0]
      exact hp y n
    · pointwise
      rw [e0]
      exact hh y k

/-- The kernel's result array is the block's result of its arguments. -/
theorem final : (dats m 0 c).arrAt 6 cfg0.N = OUT (X m c) (G m c) (WA m c) (WB m c) (WD m c) (FG m c) := by
  refine (dats m 0 c).arrAt_eq_of_covers 6 _ (by decide +kernel) fun t hf y => ?_
  have h2 : t.val % 11 = 10 := (flush0_6 t).mp hf
  blk_simp
  rw [after0_6]
  refine (out_C m c t h2 _).trans (nrm_congr (fun n => congrArg (fun r =>
    part (X m c) (G m c) (WA m c) (WB m c) (WD m c) 11 r n) (Fin.ext ?_)) (fun _ => rfl) (Fin.ext ?_))
  · have hN : t.val < 176 := lt_of_lt_of_eq t.isLt (show cfg0.N = 176 from N_0)
    have hy : (y 0).val < 1024 := (y 0).isLt
    have hv : (rowAt t.val (y 0)).val = t.val / 11 * 1024 + (y 0).val := (Nat.mod_eq_of_lt (by omega)).trans (by omega)
    blk_ext [idx t, hv]
  · blk_ext [idx t]

end Cert.Ffn2Ideal.RefValue

namespace Cert.Ffn2RefIdeal.RefValue

open Cert.Ffn2RefIdeal Cert.Ffn2RefIdeal.Gen Cert.Ffn2RefIdeal.Read Cert.FfnMath
open Cert.Ffn2Ideal.RefValue (row gain part OUT)

variable (x0 : (⟨S16384x2048, .f32⟩ : BufTy).Contents (Elt Ideal)) (x1 : (⟨S1x2048, .f32⟩ : BufTy).Contents (Elt Ideal))
  (x2 x3 : (⟨S2048x5632, .bf16⟩ : BufTy).Contents (Elt Ideal)) (x4 : (⟨S5632x2048, .bf16⟩ : BufTy).Contents (Elt Ideal))
  (x5 : (⟨S2048, .f32⟩ : BufTy).Contents (Elt Ideal))

/-- The first norm. -/
theorem norm1 (i : S16384x2048.Idx) : val_main_v13 (F := Ideal) x0 x1 i = nrm (row x0 (i 0)) (gain x1) (i 1) := by
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  exact nrm_of (congrArg x0 (by blk_ext)) (fun j => congrArg x0 (by blk_ext)) (fun j => congrArg x0 (by blk_ext))
    (congrArg x1 (by blk_ext))

/-- The gated activation. -/
theorem gated (i : S16384x5632.Idx) : val_main_v20 (F := Ideal) x0 x1 x2 x3 i
    = act (nrm (row x0 (i 0)) (gain x1)) (fun k => x2 (ix2 k (i 1))) (fun k => x3 (ix2 k (i 1))) := by
  have e17 : val_main_v17 (F := Ideal) x0 x1 x2 i = ∑ k, nrm (row x0 (i 0)) (gain x1) k * x2 (ix2 k (i 1)) := by
    rw [val_main_v17_apply]
    refine Finset.sum_congr rfl fun k _ => ?_
    rw [norm1]
    refine congrArg₂ (· * ·) rfl ?_
    exact congrArg x2 (by blk_ext)
  have e19 : val_main_v19 (F := Ideal) x0 x1 x3 i = ∑ k, nrm (row x0 (i 0)) (gain x1) k * x3 (ix2 k (i 1)) := by
    rw [val_main_v19_apply]
    refine Finset.sum_congr rfl fun k _ => ?_
    rw [norm1]
    refine congrArg₂ (· * ·) rfl ?_
    exact congrArg x3 (by blk_ext)
  rw [val_main_v20_apply, val_main_v18_apply, e19]
  simp only [val_main_call0_v5_apply, val_main_call0_v4_apply, val_main_call0_v3_apply, val_main_call0_v2_apply, val_main_call0_v1_apply, val_main_call0_v0_apply]
  rw [e17]
  show _ * Ideal.div (Ideal.ofBits .f32 0x3F800000#32) (Ideal.ofBits .f32 0x3F800000#32 + _) * _ = _
  rw [Ideal.ofBits_one_f32]
  rfl

/-- The residual sum. -/
theorem resid (i : S16384x2048.Idx) : val_main_v24 (F := Ideal) x0 x1 x2 x3 x4 i = part x0 x1 x2 x3 x4 11 (i 0) (i 1) := by
  unfold part
  rw [sum_tile, val_main_v24_apply, val_main_v23_apply, val_main_v21_apply]
  simp only [gated, val_main_v22_apply, val_main_v16_apply]
  refine congrArg₂ (· + ·) (congrArg x0 (by blk_ext)) (congrArg (half * ·) (Finset.sum_congr rfl fun k _ => ?_))
  exact congrArg₂ (· * ·) rfl (congrArg x4 (by blk_ext))

/-- The reference's value is the block's result. -/
theorem value : val_main_v37 (F := Ideal) x0 x1 x2 x3 x4 x5 = OUT x0 x1 x2 x3 x4 (fun k => x5 (ix1 k)) := by
  funext i
  unfold OUT
  simp only [val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, resid]
  exact nrm_of rfl (fun j => rfl) (fun j => rfl) (congrArg x5 (by blk_ext))

end Cert.Ffn2RefIdeal.RefValue

end
-- ==== Proof.Ffn1Value.lean ====
/- The value of the first feed-forward block: the eleven points of a row block carry the normalised rows in the scratch and add
   one tile of columns each. The same points move the input projection's weights into head order, which is the second result. -/
module

public import proofs.«01_k».proof.Defs
public import proofs.«01_k».proof.Proof.FfnMath
public import proofs.«01_k».proof.Proof.Ffn2Value
public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Value Cert.FfnMath
open Cert.Ffn2Ideal.RefValue (row gain part sl)

variable (m : (ℓ : Loc nD τ sig) → Buf (Elt Ideal) ℓ) (ρ : Dev nD → PrngReg) (c : Dev nD)

/-- The arguments the call finds, each without its leading axis. -/
abbrev X : Vec Ideal S16384x2048 .f32 := shapeCast _ (m ((c : Thread nD τ).loc main_arg0)) shapeCasts_S2x8192x2048_S16384x2048
abbrev G : Vec Ideal S1x2048 .f32 := m ((c : Thread nD τ).loc main_arg1)
abbrev WA : Vec Ideal S2048x5632 .f32 := shapeCast _ (m ((c : Thread nD τ).loc main_arg2)) shapeCasts_S1x2048x5632_S2048x5632
abbrev WB : Vec Ideal S2048x5632 .f32 := shapeCast _ (m ((c : Thread nD τ).loc main_arg3)) shapeCasts_S1x2048x5632_S2048x5632
abbrev WD : Vec Ideal S5632x2048 .f32 := shapeCast _ (m ((c : Thread nD τ).loc main_arg4)) shapeCasts_S1x5632x2048_S5632x2048

/-- Every window's block index at a point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, min (t.val % 11) 7]
    ∧ win0_6.index t = ![t.val / 11, 0] ∧ win0_7.index t = ![0, min (t.val % 11) 7, t.val / 11, 0] :=
  (by decide +kernel : ∀ t : Fin grid0.N, _)

/-! ## The payloads at an index -/

theorem pay3_apply (v : Vec Ideal S512x2048 .f32) (g : Vec Ideal S1x2048 .f32) (a b : Vec Ideal S2048x512 .bf16)
    (d : Vec Ideal S512x2048 .bf16) (y : S512x2048.Idx) :
    k0_pay3 (F := Ideal) (k0_pay14 v) (k0_pay15 g) a b d y = v y + sl (nrm (fun k => v (ix2 (y 0) k)) (gain g)) a b d (y 1) := by
  unfold k0_pay3 k0_pay1 k0_pay14 k0_pay15 sl act nrm scale gain
  pointwise

theorem pay13_apply (v : Vec Ideal S512x2048 .f32) (g : Vec Ideal S1x2048 .f32) (a b : Vec Ideal S2048x512 .bf16)
    (d : Vec Ideal S512x2048 .bf16) (y : S512x2048.Idx) :
    k0_pay13 (F := Ideal) (k0_pay9 v) (k0_pay10 g) a b d y = v y + sl (nrm (fun k => v (ix2 (y 0) k)) (gain g)) a b d (y 1) :=
  pay3_apply v g a b d y

theorem pay2_apply (v : Vec Ideal S512x2048 .f32) (g : Vec Ideal S1x2048 .f32) (y : S512x2048.Idx) :
    k0_pay2 (F := Ideal) (k0_pay14 v) (k0_pay15 g) y = nrm (fun k => v (ix2 (y 0) k)) (gain g) (y 1) := by
  unfold k0_pay2 k0_pay1 k0_pay14 k0_pay15 nrm scale gain
  pointwise

theorem pay12_apply (v : Vec Ideal S512x2048 .f32) (g : Vec Ideal S1x2048 .f32) (y : S512x2048.Idx) :
    k0_pay12 (F := Ideal) (k0_pay9 v) (k0_pay10 g) y = nrm (fun k => v (ix2 (y 0) k)) (gain g) (y 1) := pay2_apply v g y

theorem pay4_apply (v : Vec Ideal S1024x2048 .f32) (h : Vec Ideal S1024x2048 .bf16) (a b : Vec Ideal S2048x512 .bf16)
    (d : Vec Ideal S512x2048 .bf16) (y : S1024x2048.Idx) :
    k0_pay4 (F := Ideal) (k0_pay20 v) h a b d y = v y + sl (fun k => h (ix2 (y 0) k)) a b d (y 1) := by
  unfold k0_pay4 k0_pay20 sl act
  pointwise

/-! ## The points -/

/-- The array row that row `y` of point `n`'s block is. -/
abbrev rowAt (n : ℕ) (y : Fin 1024) : Fin 16384 := Fin.ofNat 16384 (1024 * (n / 11) + y.val)

theorem blk_row (t : Fin cfg0.N) (y : Fin 1024) (k : Fin 2048) : iblk m c 0 t (ix2 y k) = row (X m c) (rowAt t.val y) k := by
  have hN : t.val < 176 := lt_of_lt_of_eq t.isLt (show cfg0.N = 176 from N_0)
  have hv : (rowAt t.val y).val = 1024 * (t.val / 11) + y.val := Nat.mod_eq_of_lt (by omega)
  unfold row
  blk_ext [iblk, V, idx t, hv]

theorem blk_gain (t : Fin cfg0.N) (k : Fin 2048) : gain (iblk m c 1 t) k = gain (G m c) k := by
  unfold gain
  blk_ext! [iblk, V, idx t]

theorem blk_sl (t : Fin cfg0.N) (h h' : Fin 2048 → EReal) (hh : ∀ k, h k = h' k) (n n' : Fin 2048) (hn : n = n') :
    sl h (iblk m c 2 t) (iblk m c 3 t) (iblk m c 4 t) n
      = tile h' (fun q k => WA m c (ix2 k q)) (fun q k => WB m c (ix2 k q)) (fun q => WD m c (ix2 q n')) (t.val % 11) := by
  subst hn
  unfold sl tile
  refine Finset.sum_congr rfl fun q _ => ?_
  have hv := col_val (Nat.mod_lt t.val (by decide : 0 < 11)) q
  refine congrArg₂ (· * ·) (congrArg (· * half) (act_congr hh (fun k => ?_) fun k => ?_)) ?_
  · blk_ext [iblk, V, idx t, hv]
  · blk_ext [iblk, V, idx t, hv]
  · blk_ext [iblk, V, idx t, hv]

/-- The normalised row of a point's block. -/
abbrev hrow (n : ℕ) (y : Fin 1024) : Fin 2048 → EReal := nrm (row (X m c) (rowAt n y)) (gain (G m c))

/-- What has been added up by a point, at a place of its block. -/
abbrev acc (p n : ℕ) (y : S1024x2048.Idx) : EReal :=
  part (X m c) (G m c) (WA m c) (WB m c) (WD m c) p (rowAt n (y 0)) (y 1)

theorem acc_succ (p n : ℕ) (y : S1024x2048.Idx) : acc m c (p + 1) n y = acc m c p n y
    + tile (hrow m c n (y 0)) (fun q k => WA m c (ix2 k q)) (fun q k => WB m c (ix2 k q)) (fun q => WD m c (ix2 q (y 1))) p := by
  unfold acc part
  rw [Finset.sum_range_succ, add_assoc]

/-- The first point of a run adds tile 0 to the rows it loads. -/
theorem out_A (t : Fin cfg0.N) (h0 : t.val % 11 = 0) (y : S1024x2048.Idx) :
    (outsAt0 m c t.val t.isLt).1 y = acc m c 1 t.val y := by
  have e : acc m c 1 t.val y = row (X m c) (rowAt t.val (y 0)) (y 1) + tile (hrow m c t.val (y 0)) (fun q k => WA m c (ix2 k q))
      (fun q k => WB m c (ix2 k q)) (fun q => WD m c (ix2 q (y 1))) (t.val % 11) := by
    unfold acc part; rw [h0, Finset.sum_range_one]
  rw [Gen.outsAt0_A m c t h0 (by omega), e]
  frame_out
  canon_tiles x hx
  · rw [pay3_apply]
    refine congrArg₂ (· + ·) ?_ (blk_sl m c t _ _ (fun k => nrm_congr (fun k => ?_) (blk_gain m c t) rfl) _ _ (Fin.ext hx1.symm))
    · pointwise
      exact (blk_row m c t _ _).trans (congrArg₂ (row (X m c)) (congrArg (rowAt t.val) (Fin.ext hx0.symm)) (Fin.ext hx1.symm))
    · pointwise
      exact (blk_row m c t _ _).trans (congrArg₂ (row (X m c)) (congrArg (rowAt t.val) (Fin.ext hx0.symm)) rfl)
  · rw [pay13_apply]
    refine congrArg₂ (· + ·) ?_ (blk_sl m c t _ _ (fun k => nrm_congr (fun k => ?_) (blk_gain m c t) rfl) _ _ (Fin.ext hx1.symm))
    · pointwise
      exact (blk_row m c t _ _).trans (congrArg₂ (row (X m c)) (congrArg (rowAt t.val) (Fin.ext hx0.symm)) (Fin.ext hx1.symm))
    · pointwise
      exact (blk_row m c t _ _).trans (congrArg₂ (row (X m c)) (congrArg (rowAt t.val) (Fin.ext hx0.symm)) rfl)

/-- The first point of a run leaves the normalised rows in the scratch. -/
theorem scr_A (t : Fin cfg0.N) (h0 : t.val % 11 = 0) (y : S1024x2048.Idx) :
    (outsAt0 m c t.val t.isLt).2.2 y = hrow m c t.val (y 0) (y 1) := by
  rw [Gen.outsAt0_A m c t h0 (by omega)]
  frame_out
  canon_tiles x hx
  · rw [pay2_apply]
    refine nrm_congr (fun k => ?_) (blk_gain m c t) (Fin.ext hx1.symm)
    pointwise
    exact (blk_row m c t _ _).trans (congrArg₂ (row (X m c)) (congrArg (rowAt t.val) (Fin.ext hx0.symm)) rfl)
  · rw [pay12_apply]
    refine nrm_congr (fun k => ?_) (blk_gain m c t) (Fin.ext hx1.symm)
    pointwise
    exact (blk_row m c t _ _).trans (congrArg₂ (row (X m c)) (congrArg (rowAt t.val) (Fin.ext hx0.symm)) rfl)

/-- Along a run the scratch holds the normalised rows, and the output block the sum so far. -/
theorem inv (n : ℕ) (hn : n < cfg0.N) : (∀ y, (outsAt0 m c n hn).1 y = acc m c (n % 11 + 1) n y)
    ∧ ∀ y : S1024x2048.Idx, (outsAt0 m c n hn).2.2 y = hrow m c n (y 0) (y 1) := by
  induction n with
  | zero => exact ⟨fun y => out_A m c ⟨0, hn⟩ rfl y, scr_A m c ⟨0, hn⟩ rfl⟩
  | succ n ih =>
    by_cases h0 : (n + 1) % 11 = 0
    · refine ⟨fun y => ?_, scr_A m c ⟨n + 1, hn⟩ h0⟩
      rw [h0]; exact out_A m c ⟨n + 1, hn⟩ h0 y
    obtain ⟨ih1, ih2⟩ := ih (Nat.lt_of_succ_lt hn)
    have hm : (n + 1) % 11 = n % 11 + 1 := by omega
    have hr : ∀ y, rowAt (n + 1) y = rowAt n y := fun y => by unfold rowAt; rw [show (n + 1) / 11 = n / 11 by omega]
    have hh : ∀ y : S1024x2048.Idx, (outsAt0 m c n (Nat.lt_of_succ_lt hn)).2.2 y = hrow m c (n + 1) (y 0) (y 1) := fun y => by
      exact (ih2 y).trans (congrArg (fun r => nrm (row (X m c) r) (gain (G m c)) (y 1)) (hr (y 0)).symm)
    refine ⟨fun y => ?_, fun y => ?_⟩
    · refine (congrFun (congrArg Prod.fst (Gen.outsAt0_B m c ⟨n + 1, hn⟩ h0 (by dsimp only; omega))) y).trans ?_
      frame_out
      rw [pay4_apply, acc_succ]
      refine congrArg₂ (· + ·) ?_ ?_
      · refine (ih1 y).trans ?_
        rw [← hm]
        exact congrArg (fun r => part (X m c) (G m c) (WA m c) (WB m c) (WD m c) ((n + 1) % 11) r (y 1)) (hr (y 0)).symm
      · exact blk_sl m c ⟨n + 1, hn⟩ _ _ (fun k => by simp only [read_unread_whole]; exact hh _) _ _ rfl
    · refine (congrFun (congrArg (fun z => z.2.2) (Gen.outsAt0_B m c ⟨n + 1, hn⟩ h0 (by dsimp only; omega))) y).trans ?_
      exact hh y

/-! ## The two results -/

/-- The first result: the residual sum. -/
def OUT (x : Vec Ideal S16384x2048 .f32) (g : Vec Ideal S1x2048 .f32) (a b : Vec Ideal S2048x5632 .f32)
    (d : Vec Ideal S5632x2048 .f32) : Vec Ideal S16384x2048 .f32 := fun i => part x g a b d 11 (i 0) (i 1)

/-- The second result: the weights' columns, taken as eight groups of four of 256, with the place in a group leading. -/
def WU (w : Vec Ideal S2048x8192 .f32) : Vec Ideal S4x8x2048x256 .bf16 := fun i =>
  w (ix2 (i 2) ⟨(i 1).val * 1024 + (i 0).val * 256 + (i 3).val, by
    have h0 : (i 0).val < 4 := (i 0).isLt
    have h1 : (i 1).val < 8 := (i 1).isLt
    have h3 : (i 3).val < 256 := (i 3).isLt
    omega⟩)

/-- The input projection's weights, without the leading axis. -/
abbrev WI : Vec Ideal S2048x8192 .f32 := shapeCast _ (m ((c : Thread nD τ).loc main_arg5)) shapeCasts_S1x2048x8192_S2048x8192

/-- The kernel's first result is the residual sum. -/
theorem final6 : (dats m 0 c).arrAt 6 cfg0.N = OUT (X m c) (G m c) (WA m c) (WB m c) (WD m c) := by
  refine (dats m 0 c).arrAt_eq_of_covers 6 _ (by decide +kernel) fun t hf y => ?_
  have h2 : t.val % 11 = 10 := (flush0_6 t).mp hf
  blk_simp
  rw [after0_6]
  refine ((inv m c t.val t.isLt).1 y).trans ?_
  rw [h2]
  have hN : t.val < 176 := lt_of_lt_of_eq t.isLt (show cfg0.N = 176 from N_0)
  have hy : (y 0).val < 1024 := (y 0).isLt
  have hv : (rowAt t.val (y 0)).val = t.val / 11 * 1024 + (y 0).val := (Nat.mod_eq_of_lt (by omega)).trans (by omega)
  refine congrArg₂ (fun r n => part (X m c) (G m c) (WA m c) (WB m c) (WD m c) 11 r n) (Fin.ext ?_) (Fin.ext ?_)
  · blk_ext [idx t, hv]
  · blk_ext [idx t]

/-- What a point leaves in the second result's block. -/
theorem side (t : Fin cfg0.N) (y : S4x1x128x256.Idx) : (outsAt0 m c t.val t.isLt).2.1 y
    = iblk m c 5 t (ix2 (y 2) ⟨(y 0).val * 256 + (y 3).val, by
        have h0 : (y 0).val < 4 := (y 0).isLt
        have h3 : (y 3).val < 256 := (y 3).isLt
        omega⟩) := by
  have e : ∀ {a a' : Fin 128} {b b' : Fin 1024}, a.val = a'.val → b.val = b'.val →
      iblk m c 5 t (ix2 a b) = iblk m c 5 t (ix2 a' b') := fun ha hb => congrArg₂ (fun a b => iblk m c 5 t (ix2 a b)) (Fin.ext ha) (Fin.ext hb)
  by_cases h0 : t.val % 11 = 0
  · rw [Gen.outsAt0_A m c t h0 (by omega)]
    frame_out
    unfold k0_pay5 k0_pay6 k0_pay7 k0_pay8
    canon_tiles x hx <;> pointwise <;> exact e hx2.symm (by dsimp only; omega)
  · rw [Gen.outsAt0_B m c t h0 (by omega)]
    frame_out
    unfold k0_pay16 k0_pay17 k0_pay18 k0_pay19
    canon_tiles x hx <;> pointwise <;> exact e hx2.symm (by dsimp only; omega)

/-- The kernel's second result is the rearranged weights. -/
theorem final7 : (dats m 0 c).arrAt 7 cfg0.N = WU (WI m c) := by
  refine (dats m 0 c).arrAt_eq_of_covers 7 _ (by decide +kernel) fun t hf y => ?_
  blk_simp
  rw [after0_7]
  refine (side m c t _).trans ?_
  unfold WU
  have hN : t.val < 176 := lt_of_lt_of_eq t.isLt (show cfg0.N = 176 from N_0)
  blk_ext [iblk, V, idx t]

end Cert.KernelIdeal.RefValue

namespace Cert.ReferenceIdeal.RefValue

open Cert.ReferenceIdeal Cert.ReferenceIdeal.Gen Cert.ReferenceIdeal.Read Cert.FfnMath
open Cert.Ffn2Ideal.RefValue (row gain part)
open Cert.KernelIdeal.RefValue (OUT WU)

variable (x0 : (⟨S2x8192x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S1x2048x8192, .f32⟩ : BufTy).Contents (Elt Ideal))

/-- The norm. -/
theorem norm1 (i : S16384x2048.Idx) :
    val_main_v14 (F := Ideal) x0 x1 i = nrm (row (val_main_v0 (F := Ideal) x0) (i 0)) (gain x1) (i 1) := by
  simp only [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply]
  generalize val_main_v0 (F := Ideal) x0 = y0
  exact nrm_of (congrArg y0 (by blk_ext)) (fun j => congrArg y0 (by blk_ext)) (fun j => congrArg y0 (by blk_ext))
    (congrArg x1 (by blk_ext))

/-- The gated activation. -/
theorem gated (i : S16384x5632.Idx) : val_main_v21 (F := Ideal) x0 x1 x2 x3 i
    = act (nrm (row (val_main_v0 (F := Ideal) x0) (i 0)) (gain x1)) (fun k => val_main_v15 (F := Ideal) x2 (ix2 k (i 1)))
      (fun k => val_main_v16 (F := Ideal) x3 (ix2 k (i 1))) := by
  have e18 : val_main_v18 (F := Ideal) x0 x1 x2 i
      = ∑ k, nrm (row (val_main_v0 (F := Ideal) x0) (i 0)) (gain x1) k * val_main_v15 (F := Ideal) x2 (ix2 k (i 1)) := by
    rw [val_main_v18_apply]
    refine Finset.sum_congr rfl fun k _ => ?_
    rw [norm1]
    exact congrArg₂ (· * ·) rfl (congrArg (val_main_v15 (F := Ideal) x2) (by blk_ext))
  have e20 : val_main_v20 (F := Ideal) x0 x1 x3 i
      = ∑ k, nrm (row (val_main_v0 (F := Ideal) x0) (i 0)) (gain x1) k * val_main_v16 (F := Ideal) x3 (ix2 k (i 1)) := by
    rw [val_main_v20_apply]
    refine Finset.sum_congr rfl fun k _ => ?_
    rw [norm1]
    exact congrArg₂ (· * ·) rfl (congrArg (val_main_v16 (F := Ideal) x3) (by blk_ext))
  rw [val_main_v21_apply, val_main_v19_apply, e20]
  simp only [val_main_call0_v5_apply, val_main_call0_v4_apply, val_main_call0_v3_apply, val_main_call0_v2_apply, val_main_call0_v1_apply, val_main_call0_v0_apply]
  rw [e18]
  show _ * Ideal.div (Ideal.ofBits .f32 0x3F800000#32) (Ideal.ofBits .f32 0x3F800000#32 + _) * _ = _
  rw [Ideal.ofBits_one_f32]
  rfl

/-- The first result is the residual sum. -/
theorem value28 : val_main_v28 (F := Ideal) x0 x1 x2 x3 x4
    = OUT (val_main_v0 (F := Ideal) x0) x1 (val_main_v15 (F := Ideal) x2) (val_main_v16 (F := Ideal) x3) (val_main_v17 (F := Ideal) x4) := by
  funext i
  unfold OUT part
  rw [sum_tile, val_main_v28_apply, val_main_v27_apply, val_main_v22_apply]
  simp only [gated, val_main_v26_apply]
  refine congrArg₂ (· + ·) (congrArg (val_main_v0 (F := Ideal) x0) (by blk_ext)) (congrArg (half * ·) (Finset.sum_congr rfl fun k _ => ?_))
  exact congrArg₂ (· * ·) rfl (congrArg (val_main_v17 (F := Ideal) x4) (by blk_ext))

/-- The second result is the rearranged weights. -/
theorem value29 : val_main_v29 (F := Ideal) x5 = WU (val_main_v23 (F := Ideal) x5) := by
  funext i
  unfold WU
  rw [val_main_v29_apply, val_main_v25_apply, val_main_v24_apply]
  exact congrArg (val_main_v23 (F := Ideal) x5) (by blk_ext)

end Cert.ReferenceIdeal.RefValue

end
-- ==== Proof.OutprojValue.lean ====
/- The value of the output projection: every block the kernel writes is, entry by entry, the residual plus the two
   halves' products, and the reference's one product over the joined halves is the same sum split at the middle. -/
module

public import proofs.«01_k».proof.Defs
public import proofs.«01_k».proof.Proof.Gen.OutprojIdeal.Value
public import proofs.«01_k».proof.Proof.Gen.OutprojRefIdeal.Run
public import proofs.«01_k».proof.Proof.Gen.OutprojRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutprojIdeal.RefValue

open Cert.OutprojIdeal Cert.OutprojIdeal.Gen Cert.OutprojIdeal.Value

variable (m : (ℓ : Loc nD τ sig) → Buf (Elt Ideal) ℓ) (ρ : Dev nD → PrngReg)

/-- The projection, entry by entry: the residual, the retention half's product and the recurrence half's. -/
def OUT (x : Vec Ideal S16384x2048 .f32) (ret hgo : Vec Ideal S16384x1024 .bf16) (wo : Vec Ideal S2048x2048 .bf16) :
    Vec Ideal S16384x2048 .f32 := fun i =>
  (x i + ∑ k : Fin 1024, ret (ix2 (i 0) k) * wo (ix2 ⟨k.val, by omega⟩ (i 1)) : EReal)
    + ∑ k : Fin 1024, hgo (ix2 (i 0) k) * wo (ix2 ⟨1024 + k.val, by omega⟩ (i 1))

/-- Every window's block index at a point: the rows move with the point, the two weight halves stay. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, _)

/-- The kernel's result array is the projection of its arguments. -/
theorem final (c : Dev nD) : (dats m 0 c).arrAt 5 cfg0.N = OUT (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold k0_pay1 OUT
  pointwise
  blk_point [iblk, V, idx t]

end Cert.OutprojIdeal.RefValue

namespace Cert.OutprojRefIdeal.RefValue

open Cert.OutprojRefIdeal Cert.OutprojRefIdeal.Gen Cert.OutprojRefIdeal.Read

/-- The reference's value is the projection: its sum over the joined halves split at the middle. -/
theorem value (x0 : (⟨S16384x2048, .f32⟩ : BufTy).Contents (Elt Ideal)) (x1 x2 : (⟨S16384x1024, .bf16⟩ : BufTy).Contents (Elt Ideal))
    (x3 : (⟨S2048x2048, .bf16⟩ : BufTy).Contents (Elt Ideal)) :
    val_main_v2 (F := Ideal) x0 x1 x2 x3 = Cert.OutprojIdeal.RefValue.OUT x0 x1 x2 x3 := by
  funext i
  rw [val_main_v2_apply, val_main_v1_apply, Ideal.addf_def]
  unfold Cert.OutprojIdeal.RefValue.OUT
  rw [add_assoc]
  refine congrArg (x0 i + ·) ((Fin.sum_univ_add (a := 1024) (b := 1024) _).trans ?_)
  refine congrArg₂ (· + ·) (Finset.sum_congr rfl fun k _ => ?_) (Finset.sum_congr rfl fun k _ => ?_)
  · refine congrArg₂ (· * ·) ?_ (congrArg x3 ?_)
    · unfold val_main_v0
      pointwise
      rw [dif_pos (show (Fin.castAdd 1024 k).val < 1024 from k.isLt)]
      rfl
    · blk_ext [Fin.val_castAdd]
  · refine congrArg₂ (· * ·) ?_ (congrArg x3 ?_)
    · unfold val_main_v0
      pointwise
      rw [dif_neg (show ¬(Fin.natAdd 1024 k).val < 1024 by simp)]
      refine congrArg x2 ?_
      blk_ext [Fin.val_natAdd]
    · blk_ext [Fin.val_natAdd]

end Cert.OutprojRefIdeal.RefValue

end
-- ==== Proof.lean ====
/- The four calls of the layer, each with a value claim: the first feed-forward block (which also moves the input
   projection's weights into head order), the output projection, the second feed-forward block with the closing norm, and of
   the mixer the four weight casts it returns for the next call. Each value claim sets the run of the kernel, read block by
   block in Ffn1Value, OutprojValue, Ffn2Value and MixerCasts, beside the run of its reference. The mixer's frames are proved
   in MixerFrame and MixerIdealFrame; its run with the casts named is in MixerIdealNamed. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2RefIdeal
public import proofs.«01_k».proof.Proof.Gen.OutprojIdeal.Value
public import proofs.«01_k».proof.Proof.Gen.Ffn2Ideal.Value
public import proofs.«01_k».proof.Proof.Gen.ReferenceIdeal.Run
public import proofs.«01_k».proof.Proof.Gen.ReferenceIdeal.Read
public import proofs.«01_k».proof.Proof.Gen.OutprojRefIdeal.Read
public import proofs.«01_k».proof.Proof.Gen.Ffn2RefIdeal.Read
public import proofs.«01_k».proof.Proof.Gen.OutprojRefIdeal.Run
public import proofs.«01_k».proof.Proof.Gen.Ffn2RefIdeal.Run
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Read
public import proofs.«01_k».proof.Proof.Gen.MixerRefIdeal.Run
public import proofs.«01_k».proof.Proof.MixerFrame
public import proofs.«01_k».proof.Proof.MixerIdealFrame
public import proofs.«01_k».proof.Proof.MixerCasts
public import proofs.«01_k».proof.Proof.Ffn1Value
public import proofs.«01_k».proof.Proof.Ffn2Value
public import proofs.«01_k».proof.Proof.OutprojValue
public import Idealize.ShloMosaic.Adequacy
public import Idealize.ShloMosaic.Lib.Claim
public import Idealize.ShloMosaic.Init
public import Idealize.ShloMosaic.Lib.Quiescent

@[expose] public section

noncomputable section

open Idealize.ShloMosaic Idealize.SL.Sem Idealize.ShloMosaic.TcCoe

namespace Cert.Proof

/-- `Reference` ends with its arguments unchanged; it declares no semaphore. -/
theorem frame_Reference : Cert.quiescent_ReferenceIdeal (hReferenceIdeal := Cert.ReferenceIdeal.Gen.facts) := fun m ρ _ =>
  (θ_run _ _ _).mono (fun r h => ⟨fun c => (h c).2.2, sem_eq_zero_of_no_sems (by decide) _⟩) (Cert.ReferenceIdeal.Value.run m ρ)

/-- `OutprojRef` ends with its arguments unchanged; it declares no semaphore. -/
theorem frame_OutprojRef : Cert.quiescent_OutprojRefIdeal (hOutprojRefIdeal := Cert.OutprojRefIdeal.Gen.facts) := fun m ρ _ =>
  (θ_run _ _ _).mono (fun r h => ⟨fun c => (h c).2, sem_eq_zero_of_no_sems (by decide) _⟩) (Cert.OutprojRefIdeal.Value.run m ρ)

/-- `Ffn2Ref` ends with its arguments unchanged; it declares no semaphore. -/
theorem frame_Ffn2Ref : Cert.quiescent_Ffn2RefIdeal (hFfn2RefIdeal := Cert.Ffn2RefIdeal.Gen.facts) := fun m ρ _ =>
  (θ_run _ _ _).mono (fun r h => ⟨fun c => (h c).2, sem_eq_zero_of_no_sems (by decide) _⟩) (Cert.Ffn2RefIdeal.Value.run m ρ)

/-- `MixerRef` ends with its arguments unchanged; it declares no semaphore. -/
theorem frame_MixerRef : Cert.quiescent_MixerRefIdeal (hMixerRefIdeal := Cert.MixerRefIdeal.Gen.facts) := fun m ρ _ =>
  (θ_run _ _ _).mono (fun r h => ⟨fun c => (h c).2.2.2.2, sem_eq_zero_of_no_sems (by decide) _⟩) (Cert.MixerRefIdeal.Value.run m ρ)

/-- The first feed-forward block's two results are the reference's. -/
theorem ffn1 : Cert.algebraic_KernelIdeal_ReferenceIdeal (hKernelIdeal := Cert.KernelIdeal.Gen.facts)
    (hReferenceIdeal := Cert.ReferenceIdeal.Gen.facts) := fun m ρ m' ρ' _ hag =>
  ⟨fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m ρ,
    (θ_run _ _ _).mono (fun _ h c => by
      obtain ⟨h0, h1, h2, h3, h4, h5⟩ := hag c
      refine ⟨(h c).1.trans ?_, (h c).2.1.trans ?_, (h c).2.2⟩
      · rw [Cert.ReferenceIdeal.Read.val_main_v28_eq, Cert.ReferenceIdeal.RefValue.value28, h0, h1, h2, h3, h4]
        exact (Cert.KernelIdeal.RefValue.final6 m c).symm
      · rw [Cert.ReferenceIdeal.Read.val_main_v29_eq, Cert.ReferenceIdeal.RefValue.value29, h5]
        exact (Cert.KernelIdeal.RefValue.final7 m c).symm) (Cert.ReferenceIdeal.Value.run m' ρ')⟩

/-- The output projection's result is the reference's. -/
theorem outproj : Cert.algebraic_OutprojIdeal_OutprojRefIdeal (hOutprojIdeal := Cert.OutprojIdeal.Gen.facts)
    (hOutprojRefIdeal := Cert.OutprojRefIdeal.Gen.facts) := fun m ρ m' ρ' _ hag =>
  ⟨fun c => (Cert.OutprojIdeal.Gen.dats m 0 c).arrAt 5 Cert.OutprojIdeal.cfg0.N,
    Cert.OutprojIdeal.Value.run_blocks m ρ,
    (θ_run _ _ _).mono (fun _ h c => by
      obtain ⟨h0, h1, h2, h3⟩ := hag c
      refine ⟨(h c).1.trans ?_, (h c).2⟩
      rw [Cert.OutprojRefIdeal.Read.val_main_v2_eq, Cert.OutprojRefIdeal.RefValue.value, h0, h1, h2, h3]
      exact (Cert.OutprojIdeal.RefValue.final m c).symm) (Cert.OutprojRefIdeal.Value.run m' ρ')⟩

/-- The second feed-forward block's result is the reference's. -/
theorem ffn2 : Cert.algebraic_Ffn2Ideal_Ffn2RefIdeal (hFfn2Ideal := Cert.Ffn2Ideal.Gen.facts)
    (hFfn2RefIdeal := Cert.Ffn2RefIdeal.Gen.facts) := fun m ρ m' ρ' _ hag =>
  ⟨fun c => (Cert.Ffn2Ideal.Gen.dats m 0 c).arrAt 6 Cert.Ffn2Ideal.cfg0.N,
    Cert.Ffn2Ideal.Value.run_blocks m ρ,
    (θ_run _ _ _).mono (fun _ h c => by
      obtain ⟨h0, h1, h2, h3, h4, h5⟩ := hag c
      refine ⟨(h c).1.trans ?_, (h c).2⟩
      rw [Cert.Ffn2RefIdeal.Read.val_main_v37_eq, Cert.Ffn2RefIdeal.RefValue.value, h0, h1, h2, h3, h4, h5]
      exact (Cert.Ffn2Ideal.RefValue.final m c).symm) (Cert.Ffn2RefIdeal.Value.run m' ρ')⟩

/-- The mixer's constant 1.442695… is the one named `inv_ln2`, the reciprocal of log 2. -/
theorem mixer_named : Cert.preserves_Mixer_MixerIdeal :=
  IdealRules.named_const.statement Cert.MixerIdeal.κ "inv_ln2" .f32 0x3FB8AA3B#32 (((Real.log 2)⁻¹ : ℝ) : EReal) rfl

/-- The mixer's four weight casts are the reference's. -/
theorem mixer : Cert.algebraic_MixerIdeal_MixerRefIdeal (hMixerIdeal := Cert.MixerIdeal.Gen.facts)
    (hMixerRefIdeal := Cert.MixerRefIdeal.Gen.facts) := fun m ρ m' ρ' _ hag =>
  ⟨fun c => (Cert.MixerIdeal.Named.dats m 0 c).arrAt 13 Cert.MixerIdeal.cfg0.N,
    fun c => (Cert.MixerIdeal.Named.dats m 0 c).arrAt 14 Cert.MixerIdeal.cfg0.N,
    fun c => (Cert.MixerIdeal.Named.dats m 0 c).arrAt 15 Cert.MixerIdeal.cfg0.N,
    fun c => (Cert.MixerIdeal.Named.dats m 0 c).arrAt 16 Cert.MixerIdeal.cfg0.N,
    (θ_run _ _ _).mono (fun _ h c => ⟨(h.1 c).1, (h.1 c).2.1, (h.1 c).2.2.1, (h.1 c).2.2.2, h.2.1 c⟩)
      (θ_run_and (Cert.MixerIdeal.Named.arrays m ρ) (Cert.MixerIdeal.Gen.frame m ρ)),
    (θ_run _ _ _).mono (fun _ h c => by
      obtain ⟨h0, h1, h2, h3, h4, h5, h6, h7, h8, h9, h10⟩ := hag c
      refine ⟨(h c).1.trans ?_, (h c).2.1.trans ?_, (h c).2.2.1.trans ?_, (h c).2.2.2.1.trans ?_, (h c).2.2.2.2⟩
      · rw [h7]; exact (Cert.MixerIdeal.Named.final13 m c).symm
      · rw [h8]; exact (Cert.MixerIdeal.Named.final14 m c).symm
      · rw [h9]; exact (Cert.MixerIdeal.Named.final15 m c).symm
      · rw [h10]; exact (Cert.MixerIdeal.Named.final16 m c).symm) (Cert.MixerRefIdeal.Value.run m' ρ')⟩

/-- Every claim. -/
theorem claim : Cert.Claim :=
  ⟨Cert.Kernel.Gen.facts, Cert.KernelIdeal.Gen.facts, Cert.ReferenceIdeal.Gen.facts, Cert.Outproj.Gen.facts,
    Cert.OutprojIdeal.Gen.facts, Cert.OutprojRefIdeal.Gen.facts, Cert.Ffn2.Gen.facts, Cert.Ffn2Ideal.Gen.facts,
    Cert.Ffn2RefIdeal.Gen.facts, Cert.Mixer.Gen.facts, Cert.MixerIdeal.Gen.facts, Cert.MixerRefIdeal.Gen.facts,
    fun m ρ _ => Cert.Kernel.Gen.frame m ρ, fun m ρ _ => Cert.KernelIdeal.Gen.frame m ρ, frame_Reference,
    fun m ρ _ => Cert.Outproj.Gen.frame m ρ, fun m ρ _ => Cert.OutprojIdeal.Gen.frame m ρ, frame_OutprojRef,
    fun m ρ _ => Cert.Ffn2.Gen.frame m ρ, fun m ρ _ => Cert.Ffn2Ideal.Gen.frame m ρ, frame_Ffn2Ref,
    fun m ρ _ => Cert.Mixer.Gen.frame m ρ, fun m ρ _ => Cert.MixerIdeal.Gen.frame m ρ, frame_MixerRef,
    trivial, ffn1, trivial, outproj, trivial, ffn2, mixer_named, mixer⟩

end Cert.Proof

end
